-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2097152 : Shape := ⟨1, ![2097152]⟩
abbrev S1048576 : Shape := ⟨1, ![1048576]⟩
abbrev S8388608 : Shape := ⟨1, ![8388608]⟩
abbrev S11534336 : Shape := ⟨1, ![11534336]⟩
abbrev S_ : Shape := ⟨0, ![]⟩

class Facts : Prop where
  shapeCasts_S1x2048x1024_S2097152 : S1x2048x1024.ShapeCasts S2097152
  shapeCasts_S1024x1024_S1048576 : S1024x1024.ShapeCasts S1048576
  shapeCasts_S1x2048x32x128_S8388608 : S1x2048x32x128.ShapeCasts S8388608
  concatenates_S2097152_S1048576_S8388608_S11534336_d0 : Shape.Concatenates [S2097152, S1048576, S8388608] S11534336 0
  bcast_S_S11534336 : S_.BroadcastsInDim S11534336 (![] : Fin 0 → Fin S11534336.rank)

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S11534336 1 :=
  let main_v0 : FVec F S2097152 .f32 := shapeCast S2097152 main_arg0 shapeCasts_S1x2048x1024_S2097152
  let main_v1 : FVec F S1048576 .f32 := shapeCast S1048576 main_arg1 shapeCasts_S1024x1024_S1048576
  let main_v2 : FVec F S8388608 .f32 := shapeCast S8388608 main_arg2 shapeCasts_S1x2048x32x128_S8388608
  let main_v3 : FVec F S11534336 .f32 := concatenate S11534336 0 [⟨S2097152, main_v0⟩, ⟨S1048576, main_v1⟩, ⟨S8388608, main_v2⟩] concatenates_S2097152_S1048576_S8388608_S11534336_d0
  let main_v4 : FVec F S11534336 .f32 := Host.absf main_v3
  let main_cst : FVec F S_ .f32 := constant S_ .f32 0x7F800000#32
  let main_v5 : FVec F S11534336 .f32 := broadcastInDim S11534336 ![] bcast_S_S11534336 main_cst
  let main_v6 : IVec S11534336 1 := cmpf .olt main_v4 main_v5
  main_v6
-- ==== Pre_scores_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S2097152 : Shape := ⟨1, ![2097152]⟩
abbrev S4194304 : Shape := ⟨1, ![4194304]⟩
abbrev S8388608 : Shape := ⟨1, ![8388608]⟩
abbrev S14680064 : Shape := ⟨1, ![14680064]⟩
abbrev S_ : Shape := ⟨0, ![]⟩

class Facts : Prop where
  shapeCasts_S1x2048x1024_S2097152 : S1x2048x1024.ShapeCasts S2097152
  shapeCasts_S1024x4096_S4194304 : S1024x4096.ShapeCasts S4194304
  shapeCasts_S1x2048x32x128_S8388608 : S1x2048x32x128.ShapeCasts S8388608
  concatenates_S2097152_S4194304_S8388608_S14680064_d0 : Shape.Concatenates [S2097152, S4194304, S8388608] S14680064 0
  bcast_S_S14680064 : S_.BroadcastsInDim S14680064 (![] : Fin 0 → Fin S14680064.rank)

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S14680064 1 :=
  let main_v0 : FVec F S2097152 .f32 := shapeCast S2097152 main_arg0 shapeCasts_S1x2048x1024_S2097152
  let main_v1 : FVec F S4194304 .f32 := shapeCast S4194304 main_arg1 shapeCasts_S1024x4096_S4194304
  let main_v2 : FVec F S8388608 .f32 := shapeCast S8388608 main_arg2 shapeCasts_S1x2048x32x128_S8388608
  let main_v3 : FVec F S14680064 .f32 := concatenate S14680064 0 [⟨S2097152, main_v0⟩, ⟨S4194304, main_v1⟩, ⟨S8388608, main_v2⟩] concatenates_S2097152_S4194304_S8388608_S14680064_d0
  let main_v4 : FVec F S14680064 .f32 := Host.absf main_v3
  let main_cst : FVec F S_ .f32 := constant S_ .f32 0x7F800000#32
  let main_v5 : FVec F S14680064 .f32 := broadcastInDim S14680064 ![] bcast_S_S14680064 main_cst
  let main_v6 : IVec S14680064 1 := cmpf .olt main_v4 main_v5
  main_v6
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x1024 : Shape := ⟨2, ![2048, 1024]⟩
abbrev S2048x8x128 : Shape := ⟨3, ![2048, 8, 128]⟩
abbrev S4x512x1024 : Shape := ⟨3, ![4, 512, 1024]⟩
abbrev S4x3x128x1024 : Shape := ⟨4, ![4, 3, 128, 1024]⟩
abbrev S2 : Shape := ⟨1, ![2]⟩
abbrev S4x3 : Shape := ⟨2, ![4, 3]⟩
abbrev S1 : Shape := ⟨1, ![1]⟩
abbrev S_ : Shape := ⟨0, ![]⟩
abbrev S1x2048x8x128 : Shape := ⟨4, ![1, 2048, 8, 128]⟩
abbrev S64x1024 : Shape := ⟨2, ![64, 1024]⟩
abbrev S512x1024 : Shape := ⟨2, ![512, 1024]⟩
abbrev S64x8x128 : Shape := ⟨3, ![64, 8, 128]⟩
abbrev S512x8x128 : Shape := ⟨3, ![512, 8, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1x1 : Shape := ⟨2, ![1, 1]⟩
abbrev S1x1x128x1024 : Shape := ⟨4, ![1, 1, 128, 1024]⟩
abbrev S128x1024 : Shape := ⟨2, ![128, 1024]⟩
abbrev S1x128x1024 : Shape := ⟨3, ![1, 128, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .f32⟩
  | .local _ .vmem, ⟨4, _⟩ => ⟨S2048x8x128, .f32⟩
  | .local _ .vmem, ⟨5, _⟩ => ⟨S2048x8x128, .f32⟩
  | .local _ .vmem, ⟨6, _⟩ => ⟨S4x512x1024, .bf16⟩
  | .local _ .vmem, ⟨7, _⟩ => ⟨S4x3x128x1024, .bf16⟩
  | .local _ .vmem, ⟨8, _⟩ => ⟨S4x3x128x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32_8 : BitVec 32 := 0#32
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.muli v2 c8_i32
  let c0_i32_11 : BitVec 32 := 0#32
  ![0, 0, v12.toNat, 0]
def k0_dev1 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_129 : BitVec 32 := 1#32
  let v206 : BitVec 32 := Scalar.muli v5 c1_i32_129
  let v207 : BitVec 32 := Scalar.addi c0_i32_130 v206
  v207.toNat
def k0_dev2 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_132 : BitVec 32 := 1#32
  let v208 : BitVec 32 := Scalar.muli v8 c1_i32_132
  let v209 : BitVec 32 := Scalar.addi c0_i32_133 v208
  v209.toNat
def k0_dev3 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_135 : BitVec 32 := 1#32
  let v210 : BitVec 32 := Scalar.muli v11 c1_i32_135
  let v211 : BitVec 32 := Scalar.addi c0_i32_136 v210
  v211.toNat
def k0_off2 (d0 : Dev nD) (c0_i32 : BitVec 32) : Fin 3 → Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c128_i32 : BitVec 32 := 128#32
  let v212 : BitVec 32 := Scalar.muli v5 c128_i32
  let c0_i32_148 : BitVec 32 := 0#32
  ![0, v212.toNat, 0]
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_144 : BitVec 32 := 1#32
  let v213 : BitVec 32 := Scalar.muli v5 c1_i32_144
  let v214 : BitVec 32 := Scalar.addi c0_i32_145 v213
  v214.toNat
def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_157 : BitVec 32 := 1#32
  let v224 : BitVec 32 := Scalar.muli v8 c1_i32_157
  let v225 : BitVec 32 := Scalar.addi c0_i32_158 v224
  v225.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_170 : BitVec 32 := 1#32
  let v235 : BitVec 32 := Scalar.muli v11 c1_i32_170
  let v236 : BitVec 32 := Scalar.addi c0_i32_171 v235
  v236.toNat
def k0_off3 (d0 : Dev nD) : Fin 3 → Nat :=
  let c0_345 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_344 : BitVec 32 := 128#32
  let v456 : BitVec 32 := Scalar.muli v2 c128_i32_344
  let v457 : Index := Scalar.indexCast v456
  let c0_346 : Index := 0#32
  ![0, v457.toNat, 0]
def k0_off4 (d0 : Dev nD) (c0_i32_358 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v474 : BitVec 32 := Scalar.muli v2 c512_i32
  let v475 : BitVec 32 := Scalar.addi v474 c0_i32_358
  let v476 : Index := Scalar.indexCast v475
  let c0_359 : Index := 0#32
  ![v476.toNat, 0]
def k0_off5 (d0 : Dev nD) (c0_i32_361 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_360 : BitVec 32 := 512#32
  let v479 : BitVec 32 := Scalar.muli v2 c512_i32_360
  let c256_i32 : BitVec 32 := 256#32
  let v480 : BitVec 32 := Scalar.addi v479 c256_i32
  let v481 : BitVec 32 := Scalar.addi v480 c0_i32_361
  let v482 : Index := Scalar.indexCast v481
  let c0_362 : Index := 0#32
  ![v482.toNat, 0]
def k0_off6 (d0 : Dev nD) : Fin 3 → Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_365 : BitVec 32 := 128#32
  let v489 : BitVec 32 := Scalar.muli v2 c128_i32_365
  let c0_i32_377 : BitVec 32 := 0#32
  ![0, v489.toNat, 0]
def k0_dev7 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_373 : BitVec 32 := 1#32
  let v490 : BitVec 32 := Scalar.muli v5 c1_i32_373
  let v491 : BitVec 32 := Scalar.addi c0_i32_374 v490
  v491.toNat
def k0_dev8 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_386 : BitVec 32 := 1#32
  let v501 : BitVec 32 := Scalar.muli v8 c1_i32_386
  let v502 : BitVec 32 := Scalar.addi c0_i32_387 v501
  v502.toNat
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_399 : BitVec 32 := 1#32
  let v512 : BitVec 32 := Scalar.muli v11 c1_i32_399
  let v513 : BitVec 32 := Scalar.addi c0_i32_400 v512
  v513.toNat
def k0_off7 (d0 : Dev nD) (c0_i32 : BitVec 32) : Fin 3 → Nat :=
  let c1_i32_405 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c128_i32_404 : BitVec 32 := 128#32
  let v522 : BitVec 32 := Scalar.muli v5 c128_i32_404
  let c0_i32_416 : BitVec 32 := 0#32
  ![1, v522.toNat, 0]
def k0_dev10 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_412 : BitVec 32 := 1#32
  let v523 : BitVec 32 := Scalar.muli v5 c1_i32_412
  let v524 : BitVec 32 := Scalar.addi c0_i32_413 v523
  v524.toNat
def k0_dev11 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_425 : BitVec 32 := 1#32
  let v534 : BitVec 32 := Scalar.muli v8 c1_i32_425
  let v535 : BitVec 32 := Scalar.addi c0_i32_426 v534
  v535.toNat
def k0_dev12 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_438 : BitVec 32 := 1#32
  let v545 : BitVec 32 := Scalar.muli v11 c1_i32_438
  let v546 : BitVec 32 := Scalar.addi c0_i32_439 v545
  v546.toNat
def k0_off8 (d0 : Dev nD) (c0_i32_569 : BitVec 32) (c0_i32_576 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_567 : BitVec 32 := 8#32
  let v738 : BitVec 32 := Scalar.addi v2 c8_i32_567
  let c1_i32_568 : BitVec 32 := 1#32
  let v739 : BitVec 32 := Scalar.subi v738 c1_i32_568
  let v740 : BitVec 32 := Scalar.subi v739 c0_i32_569
  let c4_i32_570 : BitVec 32 := 4#32
  let v741 : BitVec 32 := Scalar.remsi v740 c4_i32_570
  let c512_i32_575 : BitVec 32 := 512#32
  let v746 : BitVec 32 := Scalar.muli v741 c512_i32_575
  let v747 : BitVec 32 := Scalar.addi v746 c0_i32_576
  let v748 : Index := Scalar.indexCast v747
  let c0_577 : Index := 0#32
  ![v748.toNat, 0]
def k0_off9 (d0 : Dev nD) (c0_i32_569 : BitVec 32) (c0_i32_580 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_567 : BitVec 32 := 8#32
  let v738 : BitVec 32 := Scalar.addi v2 c8_i32_567
  let c1_i32_568 : BitVec 32 := 1#32
  let v739 : BitVec 32 := Scalar.subi v738 c1_i32_568
  let v740 : BitVec 32 := Scalar.subi v739 c0_i32_569
  let c4_i32_570 : BitVec 32 := 4#32
  let v741 : BitVec 32 := Scalar.remsi v740 c4_i32_570
  let c512_i32_578 : BitVec 32 := 512#32
  let v751 : BitVec 32 := Scalar.muli v741 c512_i32_578
  let c256_i32_579 : BitVec 32 := 256#32
  let v752 : BitVec 32 := Scalar.addi v751 c256_i32_579
  let v753 : BitVec 32 := Scalar.addi v752 c0_i32_580
  let v754 : Index := Scalar.indexCast v753
  let c0_581 : Index := 0#32
  ![v754.toNat, 0]
def k0_off10 (d0 : Dev nD) : Fin 3 → Nat :=
  let c1_728 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_727 : BitVec 32 := 128#32
  let v862 : BitVec 32 := Scalar.muli v2 c128_i32_727
  let v863 : Index := Scalar.indexCast v862
  let c0_729 : Index := 0#32
  ![1, v863.toNat, 0]
def k0_off11 (d0 : Dev nD) : Fin 3 → Nat :=
  let c1_i32_751 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_750 : BitVec 32 := 128#32
  let v895 : BitVec 32 := Scalar.muli v2 c128_i32_750
  let c0_i32_762 : BitVec 32 := 0#32
  ![1, v895.toNat, 0]
def k0_dev13 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_758 : BitVec 32 := 1#32
  let v896 : BitVec 32 := Scalar.muli v5 c1_i32_758
  let v897 : BitVec 32 := Scalar.addi c0_i32_759 v896
  v897.toNat
def k0_dev14 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_771 : BitVec 32 := 1#32
  let v907 : BitVec 32 := Scalar.muli v8 c1_i32_771
  let v908 : BitVec 32 := Scalar.addi c0_i32_772 v907
  v908.toNat
def k0_dev15 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_784 : BitVec 32 := 1#32
  let v918 : BitVec 32 := Scalar.muli v11 c1_i32_784
  let v919 : BitVec 32 := Scalar.addi c0_i32_785 v918
  v919.toNat
def k0_off12 (d0 : Dev nD) (c0_i32 : BitVec 32) : Fin 3 → Nat :=
  let c2_i32_790 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c128_i32_789 : BitVec 32 := 128#32
  let v928 : BitVec 32 := Scalar.muli v5 c128_i32_789
  let c0_i32_801 : BitVec 32 := 0#32
  ![2, v928.toNat, 0]
def k0_dev16 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_797 : BitVec 32 := 1#32
  let v929 : BitVec 32 := Scalar.muli v5 c1_i32_797
  let v930 : BitVec 32 := Scalar.addi c0_i32_798 v929
  v930.toNat
def k0_dev17 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_810 : BitVec 32 := 1#32
  let v940 : BitVec 32 := Scalar.muli v8 c1_i32_810
  let v941 : BitVec 32 := Scalar.addi c0_i32_811 v940
  v941.toNat
def k0_dev18 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_823 : BitVec 32 := 1#32
  let v951 : BitVec 32 := Scalar.muli v11 c1_i32_823
  let v952 : BitVec 32 := Scalar.addi c0_i32_824 v951
  v952.toNat
def k0_off13 (d0 : Dev nD) : Fin 3 → Nat :=
  let c2_1112 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1111 : BitVec 32 := 128#32
  let v1268 : BitVec 32 := Scalar.muli v2 c128_i32_1111
  let v1269 : Index := Scalar.indexCast v1268
  let c0_1113 : Index := 0#32
  ![2, v1269.toNat, 0]
def k0_off14 (d0 : Dev nD) : Fin 3 → Nat :=
  let c2_i32_1136 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1135 : BitVec 32 := 128#32
  let v1301 : BitVec 32 := Scalar.muli v2 c128_i32_1135
  let c0_i32_1147 : BitVec 32 := 0#32
  ![2, v1301.toNat, 0]
def k0_dev19 (d0 : Dev nD) : Nat :=
  let c0_i32_1144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_1143 : BitVec 32 := 1#32
  let v1302 : BitVec 32 := Scalar.muli v5 c1_i32_1143
  let v1303 : BitVec 32 := Scalar.addi c0_i32_1144 v1302
  v1303.toNat
def k0_dev20 (d0 : Dev nD) : Nat :=
  let c0_i32_1157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_1156 : BitVec 32 := 1#32
  let v1313 : BitVec 32 := Scalar.muli v8 c1_i32_1156
  let v1314 : BitVec 32 := Scalar.addi c0_i32_1157 v1313
  v1314.toNat
def k0_dev21 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_1169 : BitVec 32 := 1#32
  let v1324 : BitVec 32 := Scalar.muli v11 c1_i32_1169
  let v1325 : BitVec 32 := Scalar.addi c0_i32_1170 v1324
  v1325.toNat
def k0_off15 (d0 : Dev nD) (c0_i32 : BitVec 32) : Fin 3 → Nat :=
  let c3_i32_1175 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c128_i32_1174 : BitVec 32 := 128#32
  let v1334 : BitVec 32 := Scalar.muli v5 c128_i32_1174
  let c0_i32_1186 : BitVec 32 := 0#32
  ![3, v1334.toNat, 0]
def k0_dev22 (d0 : Dev nD) : Nat :=
  let c0_i32_1183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_1182 : BitVec 32 := 1#32
  let v1335 : BitVec 32 := Scalar.muli v5 c1_i32_1182
  let v1336 : BitVec 32 := Scalar.addi c0_i32_1183 v1335
  v1336.toNat
def k0_dev23 (d0 : Dev nD) : Nat :=
  let c0_i32_1196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_1195 : BitVec 32 := 1#32
  let v1346 : BitVec 32 := Scalar.muli v8 c1_i32_1195
  let v1347 : BitVec 32 := Scalar.addi c0_i32_1196 v1346
  v1347.toNat
def k0_dev24 (d0 : Dev nD) : Nat :=
  let c0_i32_1209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_1208 : BitVec 32 := 1#32
  let v1357 : BitVec 32 := Scalar.muli v11 c1_i32_1208
  let v1358 : BitVec 32 := Scalar.addi c0_i32_1209 v1357
  v1358.toNat
def k0_off16 (d0 : Dev nD) : Fin 3 → Nat :=
  let c3_1397 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1396 : BitVec 32 := 128#32
  let v1505 : BitVec 32 := Scalar.muli v2 c128_i32_1396
  let v1506 : Index := Scalar.indexCast v1505
  let c0_1398 : Index := 0#32
  ![3, v1506.toNat, 0]
def k0_off17 (d0 : Dev nD) : Fin 3 → Nat :=
  let c3_i32_1420 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1419 : BitVec 32 := 128#32
  let v1538 : BitVec 32 := Scalar.muli v2 c128_i32_1419
  let c0_i32_1431 : BitVec 32 := 0#32
  ![3, v1538.toNat, 0]
def k0_dev25 (d0 : Dev nD) : Nat :=
  let c0_i32_1428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_1427 : BitVec 32 := 1#32
  let v1539 : BitVec 32 := Scalar.muli v5 c1_i32_1427
  let v1540 : BitVec 32 := Scalar.addi c0_i32_1428 v1539
  v1540.toNat
def k0_dev26 (d0 : Dev nD) : Nat :=
  let c0_i32_1441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_1440 : BitVec 32 := 1#32
  let v1550 : BitVec 32 := Scalar.muli v8 c1_i32_1440
  let v1551 : BitVec 32 := Scalar.addi c0_i32_1441 v1550
  v1551.toNat
def k0_dev27 (d0 : Dev nD) : Nat :=
  let c0_i32_1454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_1453 : BitVec 32 := 1#32
  let v1561 : BitVec 32 := Scalar.muli v11 c1_i32_1453
  let v1562 : BitVec 32 := Scalar.addi c0_i32_1454 v1561
  v1562.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x4096, .f32⟩
  | 2 => ⟨S1x2048x32x128, .f32⟩
  | 3 => ⟨S1x2048x32x128, .f32⟩
  | 4 => ⟨S4096x1024, .f32⟩
  | 5 => ⟨S1x2048x4096, .f32⟩
  | 6 => ⟨S1x2048x32x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S2048x2048, .i32⟩
  | 48 => ⟨S2048x2048, .i32⟩
  | 49 => ⟨S2048x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x2048, .i32⟩
  | 95 => ⟨S2048x2048, .i32⟩
  | 96 => ⟨S2048x2048, .i1⟩
  | 97 => ⟨S2048x2048, .i1⟩
  | 98 => ⟨S1x32x2048x2048, .f32⟩
  | 99 => ⟨S_, .f32⟩
  | 100 => ⟨S1x32x2048x2048, .f32⟩
  | 101 => ⟨S1x32x2048x2048, .f32⟩
  | 102 => ⟨S1x1x2048x2048, .i1⟩
  | 103 => ⟨S_, .f32⟩
  | 104 => ⟨S_, .f32⟩
  | 105 => ⟨S1x32x2048x2048, .i1⟩
  | 106 => ⟨S1x32x2048x2048, .f32⟩
  | 107 => ⟨S1x32x2048x2048, .f32⟩
  | 108 => ⟨S_, .f32⟩
  | 109 => ⟨S1x32x2048, .f32⟩
  | 110 => ⟨S1x32x2048x1, .f32⟩
  | 111 => ⟨S1x32x2048x2048, .f32⟩
  | 112 => ⟨S1x32x2048x2048, .f32⟩
  | 113 => ⟨S1x32x2048x2048, .f32⟩
  | 114 => ⟨S_, .i1⟩
  | 115 => ⟨S2048, .i1⟩
  | 116 => ⟨S1x1x2048x1, .i1⟩
  | 117 => ⟨S_, .f32⟩
  | 118 => ⟨S1x32x2048, .f32⟩
  | 119 => ⟨S1x32x2048x1, .f32⟩
  | 120 => ⟨S_, .f32⟩
  | 121 => ⟨S_, .f32⟩
  | 122 => ⟨S1x32x2048x1, .i1⟩
  | 123 => ⟨S1x32x2048x1, .f32⟩
  | 124 => ⟨S1x32x2048x1, .f32⟩
  | 125 => ⟨S1x32x2048x2048, .f32⟩
  | 126 => ⟨S1x32x2048x2048, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x32x2048x2048, .i1⟩
  | 3 => ⟨S1x32x2048x2048, .f32⟩
  | 4 => ⟨S1x32x2048x2048, .f32⟩
  | 5 => ⟨S1x32x128x2048, .f32⟩
  | 6 => ⟨S1x2048x32x128, .f32⟩
  | 7 => ⟨S1x2048x4096, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Common.lean ====
/-
The exchange: who talks to whom over which cell, what every landing hands over, and in which order a device pays.

Four devices. Device `c` names the others `peer c j`, `j = 0, 1, 2`; seen from there `c` is `peer _ (2 - j)`.

* Barrier cell, one unit from each other device. The unit from `peer c j` hands over that device's landing slots with
  index `j`, the ones that `c` copies into.
* A hop `(k, r, j)`: kind `k` (0: partial sums to the rows' owner, 1: finished rows to everybody), row group `r`, peer `j`.
  It has a send cell on the sender (hands back the source piece) and a receive cell on the receiver (hands over the
  receiver's slot at NAMED contents).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.ValueIdxCore

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The copies of the rounds algebra -/

/-- A duty of a cell: the barrier's three payers. -/
abbrev Duty : Type := Fin 3
/-- The exchange's copy of the rounds algebra. -/
abbrev UX : Type := Rounds.URounds (GSem nD τ sig) Duty
abbrev UU : Type := UR sig nD τ × (UX × Counters)

local notation "𝕄" => MT nD τ sig Unit (Elt F) ℕ UU ℕ
abbrev EP : Emb (UR sig nD τ) (MT nD τ sig Unit (Elt F) ℕ UU ℕ) := embL
/-- The exchange's copy: the left half of the right factor; the other half serves the local copies. -/
def ER : Emb UX (MT nD τ sig Unit (Elt F) ℕ UU ℕ) :=
  ((Emb.inl : Emb UX (UX × Counters)).trans (Emb.inr : Emb (UX × Counters) UU)).trans
    (uEmb (nD := nD) (τ := τ) (sig := sig) (Ix := Unit) (Val := Elt F) (Name := ℕ) (U := UU) (Lvl := ℕ)).toEmb
instance ER_landsIn : (ER : Emb UX 𝕄).LandsIn (upEmb : UEmb _ 𝕄) := by unfold ER; infer_instance

/-! ## Peers and hops -/

set_option backward.proofsInPublic true in
/-- The `j`-th peer of `c`. -/
def peer (c : Dev nD) (j : Fin 3) : Dev nD := ⟨(c.val + j.val + 1) % 4, Nat.mod_lt _ (by decide)⟩

theorem peer_rev (c : Dev nD) (j : Fin 3) : peer (peer c j) j.rev = c := by revert c j; decide
theorem peer_rev' (c : Dev nD) (j : Fin 3) : peer (peer c j.rev) j = c := by revert c j; decide
theorem peer_ne (c : Dev nD) (j : Fin 3) : peer c j ≠ c := by revert c j; decide

/-- Kind, row group, peer. -/
abbrev Hop : Type := Fin 2 × Fin 4 × Fin 3

/-! ## Memrefs -/

/-- The landing buffer of a kind. -/
abbrev slotRef (k : Fin 2) : Ref sig .tc := match k with | 0 => cc0_scratch3 | 1 => cc0_scratch4

abbrev grpM : Memref sig .tc .vmem S4x512x1024 .bf16 := Memref.whole cc0_scratch2

abbrev slotA (k : Fin 2) : Memref sig .tc .vmem S4x3x128x1024 .bf16 :=
  match k with | 0 => Memref.whole cc0_scratch3 | 1 => Memref.whole cc0_scratch4

theorem slot_inb (r : Fin 4) (j : Fin 3) :
    ∀ a, (![r.val, j.val, 0, 0] : Fin 4 → ℕ) a + S1x1x128x1024.size a ≤ S4x3x128x1024.size a := by
  revert r j; decide
theorem chunk_inb (r p : Fin 4) :
    ∀ a, (![r.val, 128 * p.val, 0] : Fin 3 → ℕ) a + S1x128x1024.size a ≤ S4x512x1024.size a := by
  revert r p; decide

abbrev slotRect (r : Fin 4) (j : Fin 3) : Rect S4x3x128x1024 :=
  Rect.unit (s := S4x3x128x1024) ![r.val, j.val, 0, 0] S1x1x128x1024.size (slot_inb r j)
abbrev chunkRect (r p : Fin 4) : Rect S4x512x1024 :=
  Rect.unit (s := S4x512x1024) ![r.val, 128 * p.val, 0] S1x128x1024.size (chunk_inb r p)

/-- Slot `(r, j)` of the landing buffer of kind `k`. -/
abbrev slotM (k : Fin 2) (r : Fin 4) (j : Fin 3) : Memref sig .tc .vmem S128x1024 .bf16 :=
  ((slotA k).slice (slotRect r j) (fun _ => rfl)).squeeze S128x1024 squeezes_S1x1x128x1024_S128x1024
/-- Rows `128 p .. 128 p + 127` of row group `r`'s partial sum. -/
abbrev chunkM (r p : Fin 4) : Memref sig .tc .vmem S128x1024 .bf16 :=
  (grpM.slice (chunkRect r p) (fun _ => rfl)).squeeze S128x1024 squeezes_S1x128x1024_S128x1024

/-! ## Semaphores and cells -/

abbrev barS : Sem sig := ⟨0, by decide⟩

set_option backward.proofsInPublic true in
/-- The DMA semaphore of a hop: `e = 0` the sender's, `e = 1` the receiver's. -/
def hopS (e : Fin 2) (h : Hop) : DmaSem sig :=
  ⟨6 + 24 * h.1.val + 12 * e.val + 3 * h.2.1.val + h.2.2.val, by revert e h; decide⟩

abbrev barCell (c : Dev nD) : GSem nD τ sig := ((c : Thread nD τ), .reg barS)
abbrev cellH (e : Fin 2) (c : Dev nD) (h : Hop) : GSem nD τ sig := ((c : Thread nD τ), .dma (hopS e h))
abbrev sendC (c : Dev nD) (h : Hop) : GSem nD τ sig := cellH 0 c h
abbrev recvC (c : Dev nD) (h : Hop) : GSem nD τ sig := cellH 1 c h

set_option backward.proofsInPublic true in
/-- End and hop of a DMA semaphore. -/
def decS (s : DmaSem sig) : Fin 2 × Hop :=
  (⟨((s.val - 6) / 12) % 2, Nat.mod_lt _ (by decide)⟩, ⟨((s.val - 6) / 24) % 2, Nat.mod_lt _ (by decide)⟩,
    ⟨((s.val - 6) / 3) % 4, Nat.mod_lt _ (by decide)⟩, ⟨(s.val - 6) % 3, Nat.mod_lt _ (by decide)⟩)

theorem decS_hopS (e : Fin 2) (h : Hop) : decS (hopS e h) = (e, h) := by revert e h; decide
theorem hopS_ge (e : Fin 2) (h : Hop) : 6 ≤ (hopS e h).val := by revert e h; decide

/-- What one copy credits. -/
abbrev N : ℕ := (chunkM 0 0).view.dmaCredit
theorem N_pos : 0 < N := View.dmaCredit_pos _ (by decide)

/-! ## Contents -/

/-- What each device's exchange buffers hold when they are read: `G c` the partial sums of device `c`, all four row groups;
    `A c` the same buffer with `c`'s own rows finished. -/
structure Data (F : FTy → Type) where
  G : Dev nD → S4x512x1024.Idx → Elt F .bf16
  A : Dev nD → S4x512x1024.Idx → Elt F .bf16

variable (D : Data F)

/-- The buffer a hop of kind `k` reads. -/
def Data.X (D : Data F) (k : Fin 2) (c : Dev nD) : S4x512x1024.Idx → Elt F .bf16 := if k = 0 then D.G c else D.A c

/-- The chunk a hop of kind `k` to peer `j` reads on device `c`: the peer's rows, or one's own. -/
def chunkOf (k : Fin 2) (c : Dev nD) (j : Fin 3) : Fin 4 := if k = 0 then peer c j else c

/-- Device `c`'s landing buffer of kind `k`, all hops landed. -/
def Data.Y (D : Data F) (k : Fin 2) (c : Dev nD) : S4x3x128x1024.Idx → Elt F .bf16 := fun i =>
  D.X k (peer c (Fin.rev (i 1)))
    (Idealize.ShloMosaic.ValueIdx.ix3 (i 0) ⟨128 * (chunkOf k (peer c (Fin.rev (i 1))) (i 1)).val + (i 2).val, by
      have h1 := (chunkOf k (peer c (Fin.rev (i 1))) (i 1)).isLt
      have h2 : (i 2).val < 128 := (i 2).isLt
      show _ < 512
      omega⟩ (i 3))

/-! ## Pieces of the buffers -/

/-- The share of the source piece a hop reads with: the three hops of kind 1 read one and the same piece at a time. -/
def shareOf (k : Fin 2) (j : Fin 3) : PosShare TreeShare :=
  if k = 0 then fullShare else match j with | 0 => fullShare.left | 1 => fullShare.right.left | 2 => fullShare.right.right

/-- A landing slot at contents not chosen. -/
def slotAny (k : Fin 2) (r : Fin 4) (j : Fin 3) (c : Dev nD) : sProp 𝕄 :=
  iprop(∃ f : Buf (Elt F) ((slotM k r j).view.loc (c : Thread nD τ)),
    ((slotM k r j).view.loc (c : Thread nD τ)) ↦[(slotM k r j).view.set]{fullShare} f)

/-- A landing slot, landed. -/
def slotPt (k : Fin 2) (r : Fin 4) (j : Fin 3) (c : Dev nD) : sProp 𝕄 :=
  match k with
  | 0 => iprop(((slotM 0 r j).view.loc (c : Thread nD τ)) ↦[(slotM 0 r j).view.set]{fullShare} (D.Y 0 c))
  | 1 => iprop(((slotM 1 r j).view.loc (c : Thread nD τ)) ↦[(slotM 1 r j).view.set]{fullShare} (D.Y 1 c))

/-- A chunk of the partial sums. -/
def chunkPt (r p : Fin 4) (q : PosShare TreeShare) (f : S4x512x1024.Idx → Elt F .bf16) (c : Dev nD) : sProp 𝕄 :=
  iprop(((chunkM r p).view.loc (c : Thread nD τ)) ↦[(chunkM r p).view.set]{q} f)

instance (k : Fin 2) (r : Fin 4) (j : Fin 3) (c : Dev nD) : BI.Storable (upEmb : UEmb _ 𝕄) (slotAny (F := F) k r j c) := by
  unfold slotAny; infer_instance
instance (k : Fin 2) (r : Fin 4) (j : Fin 3) (c : Dev nD) : BI.Storable (upEmb : UEmb _ 𝕄) (slotPt D k r j c) := by
  unfold slotPt; split <;> infer_instance
instance (r p : Fin 4) (q : PosShare TreeShare) (f : S4x512x1024.Idx → Elt F .bf16) (c : Dev nD) :
    BI.Storable (upEmb : UEmb _ 𝕄) (chunkPt r p q f c) := by unfold chunkPt; infer_instance

/-! ## The schedule -/

/-- Handed to `c`'s barrier cell by its `j`-th peer: that device's landing slots with index `j`, one per kind and row group. -/
def barPay (c : Dev nD) (j : Fin 3) : sProp 𝕄 :=
  bigSep Finset.univ fun x : Fin 2 × Fin 4 =>
    iprop(slotAny x.1 x.2 j (peer c j) ∗ reached ER (recvC (peer c j) (x.1, x.2, j)) 0)
def sendPay (c : Dev nD) (h : Hop) : sProp 𝕄 :=
  chunkPt h.2.1 (chunkOf h.1 c h.2.2) (shareOf h.1 h.2.2) (D.X h.1 c) c
def recvPay (c : Dev nD) (h : Hop) : sProp 𝕄 := slotPt D h.1 h.2.1 h.2.2 c

def dmaPay (c : Dev nD) (x : Fin 2 × Hop) : sProp 𝕄 := if x.1 = 0 then sendPay D c x.2 else recvPay D c x.2

instance (c : Dev nD) (j : Fin 3) : BI.Storable (upEmb : UEmb _ 𝕄) (barPay (F := F) c j) := by
  unfold barPay; infer_instance
instance (c : Dev nD) (x : Fin 2 × Hop) : BI.Storable (upEmb : UEmb _ 𝕄) (dmaPay D c x) := by
  unfold dmaPay sendPay recvPay; split <;> infer_instance

/-- One round per cell: three duties on a barrier cell, one on a hop's cells. -/
def rd : Rounds.Schedule (GSem nD τ sig) Duty 𝕄 where
  duties g r := if r = 0 ∧ g.1.2 = .tc then (match g.2 with
    | .reg _ => Finset.univ
    | .dma s => if 6 ≤ s.val then {0} else ∅) else ∅
  unitless _ := False
  amount g _ _ := match g.2 with | .reg _ => 1 | .dma _ => N
  payload g _ d := match g.2 with | .reg _ => barPay g.1.1 d | .dma s => dmaPay D g.1.1 (decS s)
  amount_pos g _ _ _ := by
    split
    · exact Nat.one_pos
    · exact N_pos

instance rd_payload_storable (g : GSem nD τ sig) (r : ℕ) (d : Duty) :
    BI.Storable (upEmb : UEmb _ 𝕄) ((rd D).payload g r d) := by
  show BI.Storable upEmb (match g.2 with | .reg _ => barPay g.1.1 d | .dma s => dmaPay D g.1.1 (decS s))
  split <;> infer_instance

section Sched

variable (c : Dev nD) (h : Hop) (e : Fin 2)

theorem duties_bar : (rd D).duties (barCell c) 0 = Finset.univ := by dsimp only [rd]; exact if_pos ⟨rfl, rfl⟩
theorem duties_hop : (rd D).duties (cellH e c h) 0 = {0} := by
  dsimp only [rd]; rw [if_pos ⟨rfl, rfl⟩, if_pos (hopS_ge e h)]
theorem duties_later (g : GSem nD τ sig) : ∀ r, 1 ≤ r → (rd D).duties g r = ∅ :=
  fun r hr => by dsimp only [rd]; exact if_neg (fun h => by omega)
theorem amount_bar (d : Duty) : (rd D).amount (barCell c) 0 d = 1 := rfl
theorem amount_hop (d : Duty) : (rd D).amount (cellH e c h) 0 d = N := rfl
theorem expect_bar : (rd D).expect (barCell c) 0 = 3 := by
  unfold Schedule.expect Schedule.amountOf; rw [duties_bar]; rfl
theorem expect_hop : (rd D).expect (cellH e c h) 0 = N := by
  unfold Schedule.expect Schedule.amountOf; rw [duties_hop, Finset.sum_singleton, amount_hop]
theorem payload_bar (d : Duty) : (rd D).payload (barCell c) 0 d = barPay c d := rfl
theorem payload_send (d : Duty) : (rd D).payload (sendC c h) 0 d = sendPay D c h := by
  show dmaPay D c (decS (hopS 0 h)) = _
  rw [decS_hopS]; exact if_pos rfl
theorem payload_recv (d : Duty) : (rd D).payload (recvC c h) 0 d = recvPay D c h := by
  show dmaPay D c (decS (hopS 1 h)) = _
  rw [decS_hopS]; exact if_neg (fun h => absurd h (show (1 : Fin 2) ≠ 0 by decide))
theorem rest_bar : bigSep ((rd D).duties (barCell c) 0 \ ∅) (fun u => (rd D).payload (barCell c) 0 u)
    = bigSep Finset.univ (fun j : Fin 3 => barPay (F := F) c j) := by
  rw [Finset.sdiff_empty, duties_bar]; rfl
theorem rest_send : bigSep ((rd D).duties (sendC c h) 0 \ ∅) (fun u => (rd D).payload (sendC c h) 0 u) = sendPay D c h := by
  rw [Finset.sdiff_empty, duties_hop, bigSep_singleton, payload_send]
theorem rest_recv : bigSep ((rd D).duties (recvC c h) 0 \ ∅) (fun u => (rd D).payload (recvC c h) 0 u) = recvPay D c h := by
  rw [Finset.sdiff_empty, duties_hop, bigSep_singleton, payload_recv]

end Sched

/-! ## What a device owes, in the order it pays -/

/-- The hops in the order the copies are issued. -/
def hops : List Hop :=
  [(0, 0, 0), (0, 0, 1), (0, 0, 2), (1, 0, 0), (1, 0, 1), (1, 0, 2), (0, 1, 0), (0, 1, 1), (0, 1, 2),
   (1, 1, 0), (1, 1, 1), (1, 1, 2), (0, 2, 0), (0, 2, 1), (0, 2, 2), (1, 2, 0), (1, 2, 1), (1, 2, 2),
   (0, 3, 0), (0, 3, 1), (0, 3, 2), (1, 3, 0), (1, 3, 1), (1, 3, 2)]

/-- A payment: a barrier unit to a peer, or a hop's receive credit. -/
abbrev Pay : Type := Fin 3 ⊕ Hop

def Pay.cell (c : Dev nD) : Pay → GSem nD τ sig
  | .inl j => barCell (peer c j)
  | .inr h => recvC (peer c h.2.2) h
def Pay.amt : Pay → ℕ
  | .inl _ => 1
  | .inr _ => N

/-- The payments in program order. -/
def pays : List Pay := [.inl 0, .inl 1, .inl 2] ++ hops.map .inr

def owedL (c : Dev nD) : List Pay → CellTallies nD τ sig Unit
  | [] => 0
  | x :: l => owedL c l + tallyAt (x.cell c) () x.amt

/-- Device `c` after its first `n` payments. -/
def owing (c : Dev nD) (n : ℕ) : sProp 𝕄 := iprop(∃ W, owes (c : Thread nD τ) (owedL c (pays.drop n)) W)

def L (g : GSem nD τ sig) : Finset Unit := if g.1.2 = .tc then {()} else ∅

/-- The level of a semaphore: below everything owed while it is waited on. -/
def lvS : SemLoc sig → ℕ
  | .reg _ => 1
  | .dma s => if s.val < 6 then 0 else if (decS s).1 = 0 then 0 else 2 + 2 * (decS s).2.2.1.val + (decS s).2.1.val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def Pay.lvl : Pay → ℕ
  | .inl _ => 1
  | .inr h => 2 + 2 * h.2.1.val + h.1.val

theorem Pay.lv_cell (c : Dev nD) (x : Pay) (u : Unit) : lv (x.cell c) u = x.lvl := by
  match x with
  | .inl j => rfl
  | .inr h =>
    have : lvS (.dma (hopS 1 h)) = 2 + 2 * h.2.1.val + h.1.val := by revert h; decide
    exact this

theorem Pay.cell_tc (c : Dev nD) (x : Pay) : (x.cell c).1.2 = .tc := by
  match x with
  | .inl j => rfl
  | .inr h => rfl

/-- Whatever is owed, is owed to a cell of the list. -/
theorem owedL_pos (c : Dev nD) (l : List Pay) (g : GSem nD τ sig) (u : Unit) (hg : 0 < owedL c l g u) :
    ∃ x ∈ l, g = x.cell c := by
  induction l with
  | nil => exact absurd hg (Nat.lt_irrefl 0)
  | cons x l ih =>
    by_cases h : g = x.cell c
    · exact ⟨x, List.mem_cons_self, h⟩
    · have h0 : owedL c (x :: l) g u = owedL c l g u + tallyAt (x.cell c) () x.amt g u := rfl
      rw [h0, tallyAt_apply, if_neg (fun h' => h h'.1), Nat.add_zero] at hg
      obtain ⟨y, hy, e⟩ := ih hg
      exact ⟨y, List.mem_cons_of_mem _ hy, e⟩

/-- A device may wait on a semaphore below everything it still owes. -/
theorem mayWait (c : Dev nD) (n : ℕ) (sm : SemLoc sig) (hn : ∀ x ∈ pays.drop n, lvS sm < x.lvl) :
    (levAts L lv : sProp 𝕄) ⊢ MayWait (c : Thread nD τ) sm () (owedL c (pays.drop n)) :=
  MayOwe.of_cut (L := L) (lev := lv) (lvS sm)
    (fun p hp => by rw [Finset.mem_singleton.mp hp, L_tc]; exact Finset.mem_singleton_self _)
    (fun g u hg => by
      obtain ⟨x, _, rfl⟩ := owedL_pos c _ g u hg
      unfold L; rw [if_pos (x.cell_tc c)]; exact Finset.mem_singleton_self _)
    (fun p hp => by rw [Finset.mem_singleton.mp hp]; exact le_rfl)
    (fun g u hg => by
      obtain ⟨x, hx, rfl⟩ := owedL_pos c _ g u hg
      rw [Pay.lv_cell]; exact hn x hx)

/-! ## Invariants -/

/-- The invariants of all cells, at the names the launch allocated them at. -/
def invs (K : GSem nD τ sig → ℕ) : sProp 𝕄 :=
  iprop((bigSep Finset.univ fun c : Dev nD => cellInv ER (rd D) (K (barCell c)) (barCell c))
    ∗ (bigSep Finset.univ fun x : (Fin 2 × Dev nD) × Hop =>
        cellInv ER (rd D) (K (cellH x.1.1 x.1.2 x.2)) (cellH x.1.1 x.1.2 x.2)))

instance invs_persistent (K : GSem nD τ sig → ℕ) : BI.Persistent (invs D K) := by unfold invs; infer_instance

theorem invs_bar (K : GSem nD τ sig → ℕ) (c : Dev nD) : invs D K ⊢ cellInv ER (rd D) (K (barCell c)) (barCell c) :=
  sep_elim_left.trans (bigSep_elim (i := c) (Finset.mem_univ _))
theorem invs_hop (K : GSem nD τ sig → ℕ) (e : Fin 2) (c : Dev nD) (h : Hop) :
    invs D K ⊢ cellInv ER (rd D) (K (cellH e c h)) (cellH e c h) :=
  sep_elim_right.trans (bigSep_elim (i := ((e, c), h)) (Finset.mem_univ _))

end Cert.Exchange
-- ==== Proof.Geometry.lean ====
/-
Where a hop's pieces lie in their buffers, and that a landed copy holds what the receiver's contents name.
-/
module

public import proofs.«01_k».proof.Proof.Common
public import Idealize.ShloMosaic.Lib.ValueLayout
public import Idealize.ShloMosaic.Lib.Pipeline.Value

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

theorem slotRect_emb (r : Fin 4) (j : Fin 3) (h : S128x1024.numel = S1x1x128x1024.numel) (t : Fin 128) (n : Fin 1024) :
    (slotRect r j).emb (Shape.reshapeEquiv h (ix2 t n)) = ix4 r j t n := by
  have e := reshapeEquiv_ix2_11ab h t n
  refine (congrArg (slotRect r j).emb e).trans ?_
  funext a
  match a with
  | ⟨0, _⟩ => exact Fin.ext (by show r.val + 1 * 0 = r.val; omega)
  | ⟨1, _⟩ => exact Fin.ext (by show j.val + 1 * 0 = j.val; omega)
  | ⟨2, _⟩ => exact Fin.ext (by show 0 + 1 * t.val = t.val; omega)
  | ⟨3, _⟩ => exact Fin.ext (by show 0 + 1 * n.val = n.val; omega)

theorem chunk_lt (p : Fin 4) (t : Fin 128) : 128 * p.val + t.val < 512 := by omega

theorem chunkRect_emb (r p : Fin 4) (h : S128x1024.numel = S1x128x1024.numel) (t : Fin 128) (n : Fin 1024) :
    (chunkRect r p).emb (Shape.reshapeEquiv h (ix2 t n)) = ix3 r ⟨128 * p.val + t.val, chunk_lt p t⟩ n := by
  have e := reshapeEquiv_ix2_1ab h t n
  refine (congrArg (chunkRect r p).emb e).trans ?_
  funext a
  match a with
  | ⟨0, _⟩ => exact Fin.ext (by show r.val + 1 * 0 = r.val; omega)
  | ⟨1, _⟩ => exact Fin.ext (by show 128 * p.val + 1 * t.val = 128 * p.val + t.val; omega)
  | ⟨2, _⟩ => exact Fin.ext (by show 0 + 1 * n.val = n.val; omega)

/-- Device `c`'s landing buffer at an element, by the device that sent it. -/
theorem Y_at (k : Fin 2) (c : Dev nD) (r : Fin 4) (j : Fin 3) (t : Fin 128) (n : Fin 1024) :
    D.Y k (peer c j) (ix4 r j t n)
      = D.X k c (ix3 r ⟨128 * (chunkOf k c j).val + t.val, chunk_lt _ t⟩ n) := by
  have e : ∀ d, d = c → D.X k d (ix3 r ⟨128 * (chunkOf k d j).val + t.val, chunk_lt _ t⟩ n)
      = D.X k c (ix3 r ⟨128 * (chunkOf k c j).val + t.val, chunk_lt _ t⟩ n) := by rintro d rfl; rfl
  exact e _ (peer_rev c j)

/-- The copy of a hop leaves the receiver's slot at its named contents. -/
theorem landed (k : Fin 2) (r : Fin 4) (j : Fin 3) (c : Dev nD)
    (fd : Buf (Elt F) ((slotM k r j).view.loc (peer c j : Thread nD τ))) :
    (((slotM k r j).view.loc (peer c j : Thread nD τ)) ↦[(slotM k r j).view.set]{fullShare}
      ((slotM k r j).view.write (Elt F) fd
        ((chunkM r (chunkOf k c j)).view.read (Elt F) (D.X k c)) Finset.univ) : sProp 𝕄) ⊢ slotPt D k r j (peer c j) := by
  match k with
  | 0 =>
    refine Entails.of_eq (pointsTo_congr fun i hi => ?_)
    obtain ⟨x, -, rfl⟩ := Finset.mem_map.mp hi
    rw [View.write_emb_of_mem _ _ (Finset.mem_univ x)]
    rw [eq_ix2 x]
    refine Eq.trans ?_ ((congrArg (D.Y 0 (peer c j)) (slotRect_emb r j _ (x 0) (x 1))).trans (Y_at D 0 c r j (x 0) (x 1))).symm
    exact congrArg (D.X 0 c) (chunkRect_emb r (chunkOf 0 c j) _ (x 0) (x 1))
  | 1 =>
    refine Entails.of_eq (pointsTo_congr fun i hi => ?_)
    obtain ⟨x, -, rfl⟩ := Finset.mem_map.mp hi
    rw [View.write_emb_of_mem _ _ (Finset.mem_univ x)]
    rw [eq_ix2 x]
    refine Eq.trans ?_ ((congrArg (D.Y 1 (peer c j)) (slotRect_emb r j _ (x 0) (x 1))).trans (Y_at D 1 c r j (x 0) (x 1))).symm
    exact congrArg (D.X 1 c) (chunkRect_emb r (chunkOf 1 c j) _ (x 0) (x 1))

end Cert.Exchange
-- ==== Proof.Steps.lean ====
/-
One lemma per communication operation: a barrier signal, the barrier wait, a hop's copy, a hop's two waits.
-/
module

public import proofs.«01_k».proof.Proof.Geometry

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

abbrev 𝒱₀ : Variants := Variants.none

/-! ## The states of a hop -/

/-- The tokens a device pays its hop with. -/
def hopTok (c : Dev nD) (h : Hop) : sProp 𝕄 :=
  iprop(dutyTok ER (sendC c h) 0 (0 : Duty) ∗ reached ER (sendC c h) 0 ∗ dutyTok ER (recvC (peer c h.2.2) h) 0 (0 : Duty))
/-- Its places on its own two cells and the credit of what it will receive. -/
def hopPos (c : Dev nD) (h : Hop) : sProp 𝕄 :=
  iprop(atPos ER (sendC c h) 0 (∅ : Finset Duty) 0 ∗ atPos ER (recvC c h) 0 (∅ : Finset Duty) 0 ∗ cred (tallyAt (recvC c h) () N))
/-- The peer's landing slot, handed over by the barrier. -/
def hopSlot (c : Dev nD) (h : Hop) : sProp 𝕄 :=
  iprop(slotAny (F := F) h.1 h.2.1 h.2.2 (peer c h.2.2) ∗ reached ER (recvC (peer c h.2.2) h) 0)
/-- Ready to copy. -/
def hopReady (c : Dev nD) (h : Hop) : sProp 𝕄 := iprop(hopTok c h ∗ hopSlot (F := F) c h ∗ hopPos c h)
/-- Copy issued. -/
def hopSent (c : Dev nD) (h : Hop) : sProp 𝕄 := iprop(cred (tallyAt (sendC c h) () N) ∗ hopPos (F := F) c h)
/-- Own piece back. -/
def hopHalf (c : Dev nD) (h : Hop) : sProp 𝕄 :=
  iprop(atPos ER (sendC c h) 1 (∅ : Finset Duty) 0 ∗ atPos ER (recvC c h) 0 (∅ : Finset Duty) 0 ∗ cred (tallyAt (recvC c h) () N))
/-- Both waits over. -/
def hopDone (c : Dev nD) (h : Hop) : sProp 𝕄 :=
  iprop(atPos ER (sendC c h) 1 (∅ : Finset Duty) 0 ∗ atPos ER (recvC c h) 1 (∅ : Finset Duty) 0)

/-- What never changes: the invariants and the levels. -/
def env (K : GSem nD τ sig → ℕ) : sProp 𝕄 := iprop(invs D K ∗ levAts L lv)

instance env_persistent (K : GSem nD τ sig → ℕ) : BI.Persistent (env D K) := by unfold env; infer_instance

theorem env_mayWait (K : GSem nD τ sig → ℕ) (c : Dev nD) (n : ℕ) (sm : SemLoc sig) (hn : ∀ x ∈ pays.drop n, lvS sm < x.lvl) :
    env D K ⊢ MayWait (c : Thread nD τ) sm () (owedL c (pays.drop n)) :=
  sep_elim_right.trans (mayWait c n sm hn)

section

variable {α : Type} (K : GSem nD τ sig → ℕ) (c : Dev nD)

/-- A hop's copy. -/
theorem copy_step (k : Fin 2) (r : Fin 4) (j : Fin 3) (n : ℕ) {dev : Dev nD}
    {src : Memref sig .tc .vmem S128x1024 .bf16} {dst : Memref sig .tc .vmem S128x1024 .bf16} {sS sem : DmaSem sig}
    {hsc : dst.view.ref.isScScratch = false} {hsrc : src.view.WordExact} {hdst : dst.view.WordExact}
    {hsem : DmaTarget.Typed .vmem (.dma sem) (.remote (dev : Thread nD τ) dst (.dma sS) hsc)}
    {kont : PUnit → Prog (TpuEff nD τ sig (Elt F) Λ₀ .tc) α} {Q : α → sProp 𝕄}
    (hdev : dev = peer c j) (hS : src = chunkM r (chunkOf k c j)) (hD : dst = slotM k r j)
    (h1 : sS = hopS 0 (k, r, j)) (h2 : sem = hopS 1 (k, r, j)) (hp : pays.drop n = .inr (k, r, j) :: pays.drop (n + 1)) :
    iprop(env D K ∗ hopReady c (k, r, j) ∗ chunkPt r (chunkOf k c j) (shareOf k j) (D.X k c) c ∗ owing c n)
      ⊢ iprop(((hopSent c (k, r, j) ∗ owing c (n + 1)) -∗ wp frame (wpE defs₀ 𝒱₀ (c : Thread nD τ) none) Set.univ (kont ⟨⟩) Q)
          -∗ wp frame (wpE defs₀ 𝒱₀ (c : Thread nD τ) none) Set.univ
            (.op (.enqueueDma src (.remote (dev : Thread nD τ) dst (.dma sS) hsc) (.dma sem) hsrc hdst hsem) kont) Q) := by
  subst hdev hS hD h1 h2
  unfold hopReady hopTok hopSlot slotAny owing chunkPt env
  iintro ⟨⟨#Hi, #Hl⟩, ⟨⟨Ht1, #Hr1, Ht2⟩, ⟨⟨%fd, Hd⟩, #Hr2⟩, Hpos⟩, Hs, ⟨%W, HO⟩⟩
  iintro Hk
  iapply (Rounds.wp_send_pointsTo 𝒱₀ ER (rd D) (c : Thread nD τ) none (c' := (peer c j : Thread nD τ))
    (src := chunkM r (chunkOf k c j)) (dst := slotM k r j) (sS := .dma (hopS 0 (k, r, j))) (sem := .dma (hopS 1 (k, r, j)))
    (q := shareOf k j) (fs := D.X k c) (fd := fd) (κ₁ := K (sendC c (k, r, j))) (κ₂ := K (recvC (peer c j) (k, r, j)))
    (r₁ := 0) (r₂ := 0) (d₁ := (0 : Duty)) (d₂ := (0 : Duty))
    (by rw [duties_hop]; exact Finset.mem_singleton_self _) (by rw [duties_hop]; exact Finset.mem_singleton_self _)
    () () N rfl (amount_hop D c (k, r, j) 0 0) (amount_hop D (peer c j) (k, r, j) 1 0) (owedL c (pays.drop (n + 1)))
    (congrArg (owedL c) hp) (W := W)
    (Entails.of_eq (payload_send D c (k, r, j) 0).symm)
    ((landed D k r j c fd).trans (Entails.of_eq (payload_recv D (peer c j) (k, r, j) 0).symm))) $$ [Hs Hd HO Ht1 Ht2]
  · isplitr
    · iapply (invs_hop D K 0 c (k, r, j)); iexact Hi
    isplitr
    · iapply (invs_hop D K 1 (peer c j) (k, r, j)); iexact Hi
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  unfold hopSent
  isplitl [Hc Hpos]
  · isplitl [Hc]; · iexact Hc
    iexact Hpos
  iexists W
  iexact HO

/-- The wait for one's own copy: the piece comes back. -/
theorem back_step (k : Fin 2) (r : Fin 4) (j : Fin 3) (n : ℕ)
    {src dst : Memref sig .tc .vmem S128x1024 .bf16} {sem : DmaSem sig}
    {hsrc : src.view.WordExact} {hdst : dst.view.WordExact}
    {kont : PUnit → Prog (TpuEff nD τ sig (Elt F) Λ₀ .tc) α} {Q : α → sProp 𝕄}
    (hN : dst.view.dmaCredit = N)
    (h1 : sem = hopS 0 (k, r, j)) (hn : ∀ x ∈ pays.drop n, lvS (.dma (hopS 0 (k, r, j))) < x.lvl) :
    iprop(env D K ∗ hopSent c (k, r, j) ∗ owing c n)
      ⊢ iprop(((hopHalf c (k, r, j) ∗ chunkPt r (chunkOf k c j) (shareOf k j) (D.X k c) c ∗ owing c n)
            -∗ wp frame (wpE defs₀ 𝒱₀ (c : Thread nD τ) none) Set.univ (kont ⟨⟩) Q)
          -∗ wp frame (wpE defs₀ 𝒱₀ (c : Thread nD τ) none) Set.univ (.op (.waitDma2 sem src dst hsrc hdst) kont) Q) := by
  subst h1
  unfold hopSent hopPos owing
  iintro ⟨#He, ⟨Hc, Hp1, Hp2, Hcr⟩, ⟨%W, HO⟩⟩
  ihave #Hm := (env_mayWait D K c n (.dma (hopS 0 (k, r, j))) hn) $$ He
  unfold env
  icases He with ⟨#Hi, #Hl⟩
  iintro Hk
  iapply (Rounds.wp_wait_rest_token 𝒱₀ ER (rd D) (c : Thread nD τ) none (κ := K (sendC c (k, r, j)))
    (wpE_waitDma2_eq 𝒱₀ (c : Thread nD τ) none Set.univ (src := src) (dst := dst)) (Set.mem_univ _) ()
    (O := owedL c (pays.drop n)) (W := W) (R := 0) (m := 0) (T := ∅)
    ((Nat.zero_add _).trans (hN.trans (expect_hop D c (k, r, j) 0).symm))) $$ [Hc Hp1 HO]
  · isplitr; · iapply (invs_hop D K 0 c (k, r, j)); iexact Hi
    isplitl [Hc]; · rw [hN]; iexact Hc
    isplitl [HO]; · iexact HO
    isplitr; · iexact Hm
    iexact Hp1
  iintro ⟨HO, Hp1, #Hr1, Hpay⟩
  ihave Hp := (Entails.of_eq (rest_send D c (k, r, j))) $$ Hpay
  iapply Hk
  unfold hopHalf
  isplitl [Hp1 Hp2 Hcr]
  · isplitl [Hp1]; · iexact Hp1
    isplitl [Hp2]; · iexact Hp2
    iexact Hcr
  isplitl [Hp]
  · unfold sendPay; iexact Hp
  iexists _
  iexact HO

/-- The wait for what the peer sent: the slot comes back, landed. -/
theorem land_step (k : Fin 2) (r : Fin 4) (j : Fin 3) (n : ℕ)
    {src dst : Memref sig .tc .vmem S128x1024 .bf16} {sem : DmaSem sig}
    {hsrc : src.view.WordExact} {hdst : dst.view.WordExact}
    {kont : PUnit → Prog (TpuEff nD τ sig (Elt F) Λ₀ .tc) α} {Q : α → sProp 𝕄}
    (hN : dst.view.dmaCredit = N)
    (h1 : sem = hopS 1 (k, r, j)) (hn : ∀ x ∈ pays.drop n, lvS (.dma (hopS 1 (k, r, j))) < x.lvl) :
    iprop(env D K ∗ hopHalf c (k, r, j) ∗ owing c n)
      ⊢ iprop(((hopDone c (k, r, j) ∗ slotPt D k r j c ∗ owing c n)
            -∗ wp frame (wpE defs₀ 𝒱₀ (c : Thread nD τ) none) Set.univ (kont ⟨⟩) Q)
          -∗ wp frame (wpE defs₀ 𝒱₀ (c : Thread nD τ) none) Set.univ (.op (.waitDma2 sem src dst hsrc hdst) kont) Q) := by
  subst h1
  unfold hopHalf owing
  iintro ⟨#He, ⟨Hp1, Hp2, Hc⟩, ⟨%W, HO⟩⟩
  ihave #Hm := (env_mayWait D K c n (.dma (hopS 1 (k, r, j))) hn) $$ He
  unfold env
  icases He with ⟨#Hi, #Hl⟩
  iintro Hk
  iapply (Rounds.wp_wait_rest_token 𝒱₀ ER (rd D) (c : Thread nD τ) none (κ := K (recvC c (k, r, j)))
    (wpE_waitDma2_eq 𝒱₀ (c : Thread nD τ) none Set.univ (src := src) (dst := dst)) (Set.mem_univ _) ()
    (O := owedL c (pays.drop n)) (W := W) (R := 0) (m := 0) (T := ∅)
    ((Nat.zero_add _).trans (hN.trans (expect_hop D c (k, r, j) 1).symm))) $$ [Hc Hp2 HO]
  · isplitr; · iapply (invs_hop D K 1 c (k, r, j)); iexact Hi
    isplitl [Hc]; · rw [hN]; iexact Hc
    isplitl [HO]; · iexact HO
    isplitr; · iexact Hm
    iexact Hp2
  iintro ⟨HO, Hp2, #Hr1, Hpay⟩
  ihave Hp := (Entails.of_eq (rest_recv D c (k, r, j))) $$ Hpay
  iapply Hk
  unfold hopDone
  isplitl [Hp1 Hp2]
  · isplitl [Hp1]; · iexact Hp1
    iexact Hp2
  isplitl [Hp]
  · unfold recvPay; iexact Hp
  iexists _
  iexact HO

/-- A barrier signal to the `j`-th peer: one's own landing slots with the index that peer copies into. -/
theorem signal_step (j : Fin 3) (n : ℕ) {dev : Dev nD} {sem : Sem sig} {v : ℤ}
    {kont : PUnit → Prog (TpuEff nD τ sig (Elt F) Λ₀ .tc) α} {Q : α → sProp 𝕄}
    (hdev : dev = peer c j) (hs : sem = barS) (hv : v = ((1 : ℕ) : ℤ)) (hp : pays.drop n = .inl j :: pays.drop (n + 1)) :
    iprop(env D K ∗ dutyTok ER (barCell (peer c j)) 0 (Fin.rev j) ∗ reached ER (barCell (peer c j)) 0
        ∗ barPay (F := F) (peer c j) (Fin.rev j) ∗ owing c n)
      ⊢ iprop((owing c (n + 1) -∗ wp frame (wpE defs₀ 𝒱₀ (c : Thread nD τ) none) Set.univ (kont ⟨⟩) Q)
          -∗ wp frame (wpE defs₀ 𝒱₀ (c : Thread nD τ) none) Set.univ (.op (.semSignal (dev, .tc) sem v) kont) Q) := by
  subst hdev hs hv
  unfold owing env
  iintro ⟨⟨#Hi, #Hl⟩, Ht, #Hr, Hp, ⟨%W, HO⟩⟩
  iintro Hk
  iapply (Rounds.wp_signal 𝒱₀ ER (rd D) (c : Thread nD τ) none (dst := (peer c j : Thread nD τ)) (sem := barS) (r := 0)
    (d := Fin.rev j) (κ := K (barCell (peer c j))) (k' := 1)
    (by rw [duties_bar]; exact Finset.mem_univ _) (amount_bar D (peer c j) _) () (owedL c (pays.drop (n + 1)))
    (congrArg (owedL c) hp) (W := W)) $$ [HO Ht Hp]
  · isplitr; · iapply (invs_bar D K (peer c j)); iexact Hi
    isplitl [HO]; · iexact HO
    isplitl [Ht]; · iexact Ht
    isplitl [Hp]
    · rw [payload_bar]; iexact Hp
    iexact Hr
  iintro HO
  iapply Hk
  iexists W
  iexact HO

/-- The barrier wait: every peer's landing slots. -/
theorem barrier_step (n : ℕ) {sem : Sem sig} {v : ℤ}
    {kont : PUnit → Prog (TpuEff nD τ sig (Elt F) Λ₀ .tc) α} {Q : α → sProp 𝕄}
    (hs : sem = barS) (hv : v = ((3 : ℕ) : ℤ)) (hn : ∀ x ∈ pays.drop n, lvS (.reg barS) < x.lvl) :
    iprop(env D K ∗ atPos ER (barCell c) 0 (∅ : Finset Duty) 0 ∗ cred (tallyAt (barCell c) () 3) ∗ owing c n)
      ⊢ iprop(((atPos ER (barCell c) 1 (∅ : Finset Duty) 0 ∗ bigSep Finset.univ (fun j : Fin 3 => barPay (F := F) c j) ∗ owing c n)
            -∗ wp frame (wpE defs₀ 𝒱₀ (c : Thread nD τ) none) Set.univ (kont ⟨⟩) Q)
          -∗ wp frame (wpE defs₀ 𝒱₀ (c : Thread nD τ) none) Set.univ (.op (.semWait sem v) kont) Q) := by
  subst hs hv
  unfold owing
  iintro ⟨#He, Hp, Hc, ⟨%W, HO⟩⟩
  ihave #Hm := (env_mayWait D K c n (.reg barS) hn) $$ He
  unfold env
  icases He with ⟨#Hi, #Hl⟩
  iintro Hk
  iapply (Rounds.wp_wait_rest_token 𝒱₀ ER (rd D) (c : Thread nD τ) none (κ := K (barCell c)) (k' := 3)
    (wpE_semWait_eq 𝒱₀ (c : Thread nD τ) none Set.univ) (Set.mem_univ _) ()
    (O := owedL c (pays.drop n)) (W := W) (R := 0) (m := 0) (T := ∅)
    ((Nat.zero_add _).trans (expect_bar D c).symm)) $$ [Hc Hp HO]
  · isplitr; · iapply (invs_bar D K c); iexact Hi
    isplitl [Hc]; · iexact Hc
    isplitl [HO]; · iexact HO
    isplitr; · iexact Hm
    iexact Hp
  iintro ⟨HO, Hp, #Hr1, Hpay⟩
  ihave Hb := (Entails.of_eq (rest_bar D c)) $$ Hpay
  iapply Hk
  isplitl [Hp]; · iexact Hp
  isplitl [Hb]; · iexact Hb
  iexists _
  iexact HO

end

end Cert.Exchange
-- ==== Proof.Content.lean ====
/-
What the exchange buffers hold, as plain functions of the devices' inputs: the partial sums of a row group (`grpOf`), a
device's own rows finished (`accOf`), the output.
-/
module

public import proofs.«01_k».proof.Proof.Steps

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open Idealize.SL.Sem

variable {F : FTy → Type} [FloatOps F]

/-- One head's context rows from the queries, keys and values of a row group, head at column offset `o`. -/
def headOf (o : ℕ) (ho : S512x1024.Slices ![0, o] S512x128) (q k v : FVec F S512x1024 .bf16) : FVec F S512x128 .f32 :=
  have qs : FVec F S512x128 .bf16 := extractStridedSlice S512x128 ![0, o] q ho
  have ks : FVec F S512x128 .bf16 := extractStridedSlice S512x128 ![0, o] k ho
  have s : FVec F S512x512 .f32 :=
    matmul dot_S512x128_S512x128_S512x512_1_1_0_0_n_n none qs ks (constant S512x512 .f32 0x00000000#32)
  have e : FVec F S512x512 .f32 := exp (mulf s (broadcast S512x512 (Scalar.ofBits .f32 0x3DB504F3#32)))
  have z : FVec F S512 .f32 := multiReduction .add [1] S512 e 0x00000000#32 reduces_S512x512_S512 (.inl rfl) rfl
  have w : FVec F S512x1 .f32 :=
    divf (broadcast S512x1 (Scalar.ofBits .f32 0x3F800000#32)) (shapeCast S512x1 z shapeCasts_S512_S512x1)
  have p : FVec F S512x512 .bf16 := truncf .bf16 (mulf e (broadcastTo S512x512 w broadcasts_S512x1_S512x512)) bitsLt_bf16_f32
  matmul dot_S512x512_S512x128_S512x128_1_0_0_1_n_n none p (extractStridedSlice S512x128 ![0, o] v ho)
    (constant S512x128 .f32 0x00000000#32)

/-- A row group's partial sum: eight heads side by side, times the rows of the output projection. -/
def grpOf (wq wo : FVec F S1024x1024 .bf16) (x k v : FVec F S512x1024 .bf16) : FVec F S1x512x1024 .bf16 :=
  have q : FVec F S512x1024 .bf16 := truncf .bf16
    (matmul dot_S512x1024_S1024x1024_S512x1024_1_0_0_1_n_n none x wq (constant S512x1024 .f32 0x00000000#32)) bitsLt_bf16_f32
  have ctx : FVec F S512x1024 .f32 := concatenate S512x1024 1
    [⟨S512x128, headOf 0 slices_S512x1024_o0_0_S512x128 q k v⟩, ⟨S512x128, headOf 128 slices_S512x1024_o0_128_S512x128 q k v⟩,
     ⟨S512x128, headOf 256 slices_S512x1024_o0_256_S512x128 q k v⟩, ⟨S512x128, headOf 384 slices_S512x1024_o0_384_S512x128 q k v⟩,
     ⟨S512x128, headOf 512 slices_S512x1024_o0_512_S512x128 q k v⟩, ⟨S512x128, headOf 640 slices_S512x1024_o0_640_S512x128 q k v⟩,
     ⟨S512x128, headOf 768 slices_S512x1024_o0_768_S512x128 q k v⟩, ⟨S512x128, headOf 896 slices_S512x1024_o0_896_S512x128 q k v⟩]
    concatenates_S512x128_S512x128_S512x128_S512x128_S512x128_S512x128_S512x128_S512x128_S512x1024_d1
  shapeCast S1x512x1024 (truncf .bf16
    (matmul dot_S512x1024_S1024x1024_S512x1024_1_0_0_1_n_n none (truncf .bf16 ctx bitsLt_bf16_f32) wo
      (constant S512x1024 .f32 0x00000000#32)) bitsLt_bf16_f32) shapeCasts_S512x1024_S1x512x1024

/-- Group 0's printed payloads, chained, are `grpOf`. -/
theorem pay_grp0 (v24 v27 : FVec F S1024x1024 .bf16) (v53 v64 v75 : FVec F S512x1024 .bf16) :
    k0_pay20 v27 v64 v75 (k0_pay10 (k0_pay9 v24 v53)) (k0_pay11 v64 v75 (k0_pay9 v24 v53)) (k0_pay12 v64 v75 (k0_pay9 v24 v53))
      (k0_pay15 (k0_pay13 v64 (k0_pay9 v24 v53)) (k0_pay14 v75) (constant S512x128 .f32 0x00000000#32))
      (k0_pay16 v64 v75 (k0_pay10 (k0_pay9 v24 v53))) (k0_pay17 v64 v75 (k0_pay10 (k0_pay9 v24 v53)))
      (k0_pay18 v64 (k0_pay10 (k0_pay9 v24 v53))) (k0_pay19 v75) (constant S512x128 .f32 0x00000000#32)
    = grpOf v24 v27 v53 v64 v75 := rfl

/-- Group 1's. -/
theorem pay_grp1 (v24 v27 : FVec F S1024x1024 .bf16) (v262 v273 : FVec F S512x1024 .bf16) (a0 a1 a2 a3 a4 a5 a6 a7 : Vec F S64x8x128 .f32) :
    k0_pay42 v27 (k0_pay41 v273 (k0_pay30 a0 a1 a2 a3 a4 a5 a6 a7) (k0_pay31 v24 v262)
      (k0_pay32 v24 v262 v273 a0 a1 a2 a3 a4 a5 a6 a7) (k0_pay33 v24 v262 v273 a0 a1 a2 a3 a4 a5 a6 a7)
      (k0_pay36 (k0_pay30 a0 a1 a2 a3 a4 a5 a6 a7) (k0_pay34 v24 v262) (k0_pay35 v273) (constant S512x512 .f32 0x00000000#32))
      (k0_pay37 v273 (k0_pay30 a0 a1 a2 a3 a4 a5 a6 a7) (k0_pay31 v24 v262))
      (k0_pay38 v273 (k0_pay30 a0 a1 a2 a3 a4 a5 a6 a7) (k0_pay31 v24 v262)) (k0_pay39 (k0_pay31 v24 v262)) (k0_pay40 v273)
      (constant S512x512 .f32 0x00000000#32)) (constant S512x1024 .f32 0x00000000#32)
    = grpOf v24 v27 v262 v273 (k0_pay30 a0 a1 a2 a3 a4 a5 a6 a7) := rfl

/-- Group 2's. -/
theorem pay_grp2 (v24 v27 : FVec F S1024x1024 .bf16) (v572 v583 : FVec F S512x1024 .bf16) (a0 a1 a2 a3 a4 a5 a6 a7 : Vec F S64x8x128 .f32) :
    k0_pay68 v27 (k0_pay56 a0 a1 a2 a3 a4 a5 a6 a7) (k0_pay58 v24 v572 v583 a0 a1 a2 a3 a4 a5 a6 a7)
      (k0_pay60 (k0_pay56 a0 a1 a2 a3 a4 a5 a6 a7) (k0_pay59 v24 v572 v583))
      (k0_pay61 v583 (k0_pay56 a0 a1 a2 a3 a4 a5 a6 a7) (k0_pay57 v24 v572)) (k0_pay62 v583 (k0_pay56 a0 a1 a2 a3 a4 a5 a6 a7) (k0_pay57 v24 v572))
      (k0_pay64 (k0_pay56 a0 a1 a2 a3 a4 a5 a6 a7) (k0_pay63 v583 (k0_pay57 v24 v572)))
      (k0_pay65 v583 (k0_pay56 a0 a1 a2 a3 a4 a5 a6 a7) (k0_pay57 v24 v572)) (k0_pay66 v583 (k0_pay56 a0 a1 a2 a3 a4 a5 a6 a7) (k0_pay57 v24 v572))
      (k0_pay67 v583 (k0_pay57 v24 v572))
    = grpOf v24 v27 v572 v583 (k0_pay56 a0 a1 a2 a3 a4 a5 a6 a7) := rfl

/-! ## A device's inputs -/

/-- What a device is launched with: the query rows, its column slice of the query projection, its row slice of the output
    projection, keys and values of all heads. -/
structure In (F : FTy → Type) where
  x : S2048x1024.Idx → Elt F .f32
  wq : S1024x1024.Idx → Elt F .f32
  wo : S1024x1024.Idx → Elt F .f32
  k : S1x2048x32x128.Idx → Elt F .f32
  v : S1x2048x32x128.Idx → Elt F .f32

/-- Device `c`'s eight heads of the keys (of the values). -/
def kmOf (c : Dev nD) (f : S1x2048x32x128.Idx → Elt F .f32) : S2048x8x128.Idx → Elt F .f32 :=
  ReadAs.same.apply (View.read (Elt F) (((Memref.whole main_arg2).slice
    (Rect.unit (s := S1x2048x32x128) (k0_off1 c) S1x2048x8x128.size (k0_off1_inb c)) (fun _ => rfl)).squeeze S2048x8x128
      squeezes_S1x2048x8x128_S2048x8x128).view f)
def vmOf (c : Dev nD) (f : S1x2048x32x128.Idx → Elt F .f32) : S2048x8x128.Idx → Elt F .f32 :=
  ReadAs.same.apply (View.read (Elt F) (((Memref.whole main_arg3).slice
    (Rect.unit (s := S1x2048x32x128) (k0_off1 c) S1x2048x8x128.size (k0_off1_inb c)) (fun _ => rfl)).squeeze S2048x8x128
      squeezes_S1x2048x8x128_S2048x8x128).view f)

theorem x_inb (g : Fin 4) (m : Fin 8) :
    ∀ a, (![256 * m.val + 64 * g.val, 0] : Fin 2 → ℕ) a + S64x1024.size a ≤ S2048x1024.size a := by revert g m; decide
theorem kv_inb (g : Fin 4) (m : Fin 8) :
    ∀ a, (![256 * m.val + 64 * g.val, 0, 0] : Fin 3 → ℕ) a + S64x8x128.size a ≤ S2048x8x128.size a := by revert g m; decide

/-- Block `m` of row group `g` of the query rows, of the keys, of the values. -/
def ldX (x : S2048x1024.Idx → Elt F .f32) (g : Fin 4) (m : Fin 8) : Vec F S64x1024 .f32 :=
  View.readAt (Elt F) (Memref.whole cc0_stg0_0).view
    (Rect.unit (s := S2048x1024) ![256 * m.val + 64 * g.val, 0] S64x1024.size (x_inb g m)).toLoadRect x
def ldK (k : S2048x8x128.Idx → Elt F .f32) (g : Fin 4) (m : Fin 8) : Vec F S64x8x128 .f32 :=
  View.readAt (Elt F) (Memref.whole cc0_scratch0).view
    (Rect.unit (s := S2048x8x128) ![256 * m.val + 64 * g.val, 0, 0] S64x8x128.size (kv_inb g m)).toLoadRect k
def ldV (k : S2048x8x128.Idx → Elt F .f32) (g : Fin 4) (m : Fin 8) : Vec F S64x8x128 .f32 :=
  View.readAt (Elt F) (Memref.whole cc0_scratch1).view
    (Rect.unit (s := S2048x8x128) ![256 * m.val + 64 * g.val, 0, 0] S64x8x128.size (kv_inb g m)).toLoadRect k

def xg (x : S2048x1024.Idx → Elt F .f32) (g : Fin 4) : FVec F S512x1024 .bf16 :=
  k0_pay6 (ldX x g 0) (ldX x g 1) (ldX x g 2) (ldX x g 3) (ldX x g 4) (ldX x g 5) (ldX x g 6) (ldX x g 7)
def kg (k : S2048x8x128.Idx → Elt F .f32) (g : Fin 4) : FVec F S512x1024 .bf16 :=
  k0_pay7 (ldK k g 0) (ldK k g 1) (ldK k g 2) (ldK k g 3) (ldK k g 4) (ldK k g 5) (ldK k g 6) (ldK k g 7)
def vg (k : S2048x8x128.Idx → Elt F .f32) (g : Fin 4) : FVec F S512x1024 .bf16 :=
  k0_pay8 (ldV k g 0) (ldV k g 1) (ldV k g 2) (ldV k g 3) (ldV k g 4) (ldV k g 5) (ldV k g 6) (ldV k g 7)

/-- The projections as the kernel holds them. -/
def wqB (w : S1024x1024.Idx → Elt F .f32) : FVec F S1024x1024 .bf16 :=
  k0_pay4 (View.readAt (Elt F) (Memref.whole cc0_stg1_0).view
    (Rect.unit (s := S1024x1024) ![0, 0] S1024x1024.size inb_S1024x1024_S1024x1024_0_0).toLoadRect w)
def woB (w : S1024x1024.Idx → Elt F .f32) : FVec F S1024x1024 .bf16 :=
  k0_pay5 (View.readAt (Elt F) (Memref.whole cc0_stg2_0).view
    (Rect.unit (s := S1024x1024) ![0, 0] S1024x1024.size inb_S1024x1024_S1024x1024_0_0).toLoadRect w)

/-- Device `c`'s partial sum of row group `g`. -/
def grp (I : Dev nD → In F) (c : Dev nD) (g : Fin 4) : FVec F S1x512x1024 .bf16 :=
  grpOf (wqB (I c).wq) (woB (I c).wo) (xg (I c).x g) (kg (kmOf c (I c).k) g) (vg (vmOf c (I c).v) g)

/-- All four groups, as the buffer holds them. -/
def gOf (I : Dev nD → In F) (c : Dev nD) : S4x512x1024.Idx → Elt F .bf16 := fun i => grp I c (i 0) (ix3 0 (i 1) (i 2))

/-! ## Sums and finished rows -/

/-- Chunk `(r, p)` of a partial-sum buffer, slot `(r, j)` of a landing buffer, as a load reads them. -/
def ldChunk (f : S4x512x1024.Idx → Elt F .bf16) (r p : Fin 4) : Vec F S1x128x1024 .bf16 :=
  View.readAt (Elt F) (Memref.whole cc0_scratch2).view (chunkRect r p).toLoadRect f
def ldSlot (f : S4x3x128x1024.Idx → Elt F .bf16) (r : Fin 4) (j : Fin 3) : Vec F S1x1x128x1024 .bf16 :=
  View.readAt (Elt F) (Memref.whole cc0_scratch3).view (slotRect r j).toLoadRect f

/-- Device `c`'s own rows of group `r`, summed over the four devices. -/
def accOf (D : Data F) (c : Dev nD) (r : Fin 4) : FVec F S128x1024 .f32 :=
  k0_pay43 (ldChunk (D.G c) r c) (ldSlot (D.Y 0 c) r 0) (ldSlot (D.Y 0 c) r 1) (ldSlot (D.Y 0 c) r 2)

/-- The same, as stored for the others. -/
def accB (D : Data F) (c : Dev nD) (r : Fin 4) : FVec F S1x128x1024 .bf16 :=
  shapeCast S1x128x1024 (truncf .bf16 (accOf D c r) bitsLt_bf16_f32) shapeCasts_S128x1024_S1x128x1024

/-- The exchange's contents, from the partial sums. -/
def dataOf (G : Dev nD → S4x512x1024.Idx → Elt F .bf16) : Data F where
  G := G
  A c := fun i =>
    if h : 128 * c.val ≤ (i 1).val ∧ (i 1).val < 128 * c.val + 128 then
      accB ⟨G, G⟩ c (i 0) (ix3 0 ⟨(i 1).val - 128 * c.val, by omega⟩ (i 2))
    else G c i

theorem accB_dataOf (G : Dev nD → S4x512x1024.Idx → Elt F .bf16) (c : Dev nD) (r : Fin 4) :
    accB (dataOf G) c r = accB ⟨G, G⟩ c r := rfl

theorem A_at (G : Dev nD → S4x512x1024.Idx → Elt F .bf16) (c : Dev nD) (r : Fin 4) (t : Fin 128) (n : Fin 1024) :
    (dataOf G).A c (ix3 r ⟨128 * c.val + t.val, chunk_lt c t⟩ n) = accB (dataOf G) c r (ix3 0 t n) := by
  have h : 128 * c.val ≤ 128 * c.val + t.val ∧ 128 * c.val + t.val < 128 * c.val + 128 := by omega
  refine (dif_pos h).trans ?_
  have e : (⟨128 * c.val + t.val - 128 * c.val, by omega⟩ : Fin 128) = t := Fin.ext (by show _ - _ = _; omega)
  exact congrArg (fun t' => accB ⟨G, G⟩ c r (ix3 0 t' n)) e

/-! ## The output, block by block -/

/-- A block of 64 output rows: the owner of the rows, which half, which row group. -/
abbrev Blk : Type := Fin 4 × Fin 2 × Fin 4

/-- The slot in which `c` receives from `p`. -/
def slotFrom (c p : Fin 4) : Fin 3 := if peer c 2 = p then 0 else if peer c 1 = p then 1 else 2

theorem slotFrom_peer (c : Dev nD) (j : Fin 3) : slotFrom c (peer c j.rev) = j := by revert c j; decide

/-- What device `c` stores in a block. -/
def blk (D : Data F) (c : Dev nD) (b : Blk) : FVec F S64x1024 .f32 :=
  if b.1 = c then
    (if b.2.1 = 0 then extractStridedSlice S64x1024 ![0, 0] (accOf D c b.2.2) slices_S128x1024_o0_0_S64x1024
      else extractStridedSlice S64x1024 ![64, 0] (accOf D c b.2.2) slices_S128x1024_o64_0_S64x1024)
  else
    (if b.2.1 = 0 then k0_pay2 (ldSlot (D.Y 1 c) b.2.2 (slotFrom c b.1)) else k0_pay3 (ldSlot (D.Y 1 c) b.2.2 (slotFrom c b.1)))

/-- Its first row. -/
def row0 (b : Blk) : ℕ := 512 * b.1.val + 256 * b.2.1.val + 64 * b.2.2.val
theorem row_lt (b : Blk) (t : Fin 64) : row0 b + t.val < 2048 := by
  obtain ⟨p, s, r⟩ := b; unfold row0; dsimp only; omega

/-- The block a row lies in, and its place there. -/
def blkOf (R : Fin 2048) : Blk := (⟨R.val / 512, by omega⟩, ⟨R.val % 512 / 256, by omega⟩, ⟨R.val % 256 / 64, by omega⟩)
theorem row_blkOf (R : Fin 2048) : row0 (blkOf R) + R.val % 64 = R.val := by
  unfold row0 blkOf; dsimp only; omega

/-- The output of device `c`. -/
def OutF (D : Data F) (c : Dev nD) : S2048x1024.Idx → Elt F .f32 := fun i =>
  blk D c (blkOf (i 0)) (ix2 ⟨(i 0).val % 64, Nat.mod_lt _ (by decide)⟩ (i 1))

/-- The output buffer holds the named contents in the blocks listed. -/
def Done (D : Data F) (c : Dev nD) (l : List Blk) (f : S2048x1024.Idx → Elt F .f32) : Prop :=
  ∀ b ∈ l, ∀ (t : Fin 64) (n : Fin 1024), f (ix2 ⟨row0 b + t.val, row_lt b t⟩ n) = blk D c b (ix2 t n)

theorem done_nil (D : Data F) (c : Dev nD) (f : S2048x1024.Idx → Elt F .f32) : Done D c [] f := fun b hb => nomatch hb

theorem row0_inj {b b' : Blk} {t t' : Fin 64} (h : row0 b + t.val = row0 b' + t'.val) : b = b' := by
  obtain ⟨p, s, r⟩ := b; obtain ⟨p', s', r'⟩ := b'
  unfold row0 at h; dsimp only at h
  have h1 : p = p' := Fin.ext (by omega)
  have h2 : s = s' := Fin.ext (by omega)
  have h3 : r = r' := Fin.ext (by omega)
  rw [h1, h2, h3]

theorem emb_block (b : Blk) (off : Fin 2 → ℕ) (hb : ∀ a, off a + S64x1024.size a ≤ S2048x1024.size a)
    (ho : off = ![row0 b, 0]) (t : Fin 64) (n : Fin 1024) :
    (Rect.unit (s := S2048x1024) off S64x1024.size hb).emb (ix2 t n) = ix2 ⟨row0 b + t.val, row_lt b t⟩ n := by
  subst ho
  funext a
  match a with
  | ⟨0, _⟩ => exact Fin.ext (by show row0 b + 1 * t.val = row0 b + t.val; omega)
  | ⟨1, _⟩ => exact Fin.ext (by show 0 + 1 * n.val = n.val; omega)

/-- A store of a block's contents at its rows. -/
theorem done_store (D : Data F) (c : Dev nD) {l : List Blk} {f : S2048x1024.Idx → Elt F .f32} (h : Done D c l f) (b : Blk)
    (off : Fin 2 → ℕ) (hb : ∀ a, off a + S64x1024.size a ≤ S2048x1024.size a) (ho : off = ![row0 b, 0])
    (v : FVec F S64x1024 .f32) (hv : v = blk D c b) :
    Done D c (b :: l) (((Memref.whole cc0_stg3_0).view.slice (Rect.unit (s := S2048x1024) off S64x1024.size hb)).write (Elt F) f v
      Finset.univ) := by
  intro b' hb' t n
  by_cases e : b' = b
  · subst e
    rw [← emb_block b' off hb ho t n]
    refine (View.write_emb_of_mem (v := (Memref.whole cc0_stg3_0).view.slice (Rect.unit (s := S2048x1024) off S64x1024.size hb))
      f v (Finset.mem_univ (ix2 t n))).trans ?_
    rw [hv]; rfl
  · rcases List.mem_cons.mp hb' with h' | h'
    · exact absurd h' e
    refine (View.write_of_not_mem _ _ _ ?_).trans (h b' h' t n)
    intro hm
    obtain ⟨x, -, hx⟩ := Finset.mem_map.mp hm
    rw [eq_ix2 x] at hx
    have hx' := congrFun (hx.symm.trans (emb_block b off hb ho (x 0) (x 1))) 0
    exact e (row0_inj (Fin.ext_iff.mp hx'))

/-- With every block listed the buffer is the output. -/
theorem done_all (D : Data F) (c : Dev nD) {l : List Blk} {f : S2048x1024.Idx → Elt F .f32} (h : Done D c l f)
    (hl : ∀ b, b ∈ l) : f = OutF D c := by
  funext i
  have h' := h (blkOf (i 0)) (hl _) ⟨(i 0).val % 64, Nat.mod_lt _ (by decide)⟩ (i 1)
  refine Eq.trans (congrArg f ?_) h'
  rw [eq_ix2 i]
  exact congrArg (fun R => ix2 R (i 1)) (Fin.ext (row_blkOf (i 0)).symm)

end Cert.Exchange
-- ==== Proof.Trio.lean ====
/-
The three hops of a kind and row group move together: their joint state, and one step lemma per operation on it.
-/
module

public import proofs.«01_k».proof.Proof.Content

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- How far a hop is: it may copy, its piece is there, the copy is on its way, its piece is back, the peer's copy is here. -/
inductive Ph | ready | armed | sent | half | over
deriving DecidableEq

/-- The piece a hop reads. -/
def piece (c : Dev nD) (h : Hop) : sProp 𝕄 :=
  chunkPt h.2.1 (chunkOf h.1 c h.2.2) (shareOf h.1 h.2.2) (D.X h.1 c) c

def hopPh (c : Dev nD) (h : Hop) : Ph → sProp 𝕄
  | .ready => hopReady c h
  | .armed => iprop(hopReady c h ∗ piece D c h)
  | .sent => hopSent c h
  | .half => iprop(hopHalf c h ∗ piece D c h)
  | .over => iprop(hopDone c h ∗ piece D c h)

/-- Three hops. -/
def Tr (c : Dev nD) (k : Fin 2) (r : Fin 4) (p : Fin 3 → Ph) : sProp 𝕄 :=
  bigSep Finset.univ fun j : Fin 3 => hopPh D c (k, r, j) (p j)

/-- Taking one hop out and putting it back further on. -/
theorem Tr_move (c : Dev nD) (k : Fin 2) (r : Fin 4) (p : Fin 3 → Ph) (j : Fin 3) (x y : Ph) (hx : p j = x) :
    Tr D c k r p ⊢ iprop(hopPh D c (k, r, j) x ∗ (hopPh D c (k, r, j) y -∗ Tr D c k r (Function.update p j y))) := by
  subst hx
  have e : (bigSep (Finset.univ.erase j) fun j' => hopPh D c (k, r, j') (p j'))
      = bigSep (Finset.univ.erase j) fun j' => hopPh D c (k, r, j') (Function.update p j y j') :=
    bigSep_congr fun j' hj => by rw [Function.update_of_ne (Finset.ne_of_mem_erase hj)]
  have e1 : Tr D c k r p = iprop(hopPh D c (k, r, j) (p j) ∗ bigSep (Finset.univ.erase j) fun j' => hopPh D c (k, r, j') (p j')) :=
    bigSep_erase (Finset.mem_univ j)
  have e2 : Tr D c k r (Function.update p j y) = iprop(hopPh D c (k, r, j) y
      ∗ bigSep (Finset.univ.erase j) fun j' => hopPh D c (k, r, j') (p j')) := by
    rw [e]
    refine (bigSep_erase (Finset.mem_univ j)).trans ?_
    rw [Function.update_self]; rfl
  rw [e1, e2]
  iintro ⟨H, HR⟩
  isplitl [H]; · iexact H
  iintro H
  isplitl [H]; · iexact H
  iexact HR

/-- The slot of hop `j` as loads read it. -/
def slotLd (k : Fin 2) (r : Fin 4) (j : Fin 3) (c : Dev nD) : sProp 𝕄 :=
  match k with
  | 0 => iprop((Memref.whole cc0_scratch3).view.loc (c : Thread nD τ) ↦[(Memref.whole cc0_scratch3).view.setOn (slotRect r j).set]{fullShare} (D.Y 0 c))
  | 1 => iprop((Memref.whole cc0_scratch4).view.loc (c : Thread nD τ) ↦[(Memref.whole cc0_scratch4).view.setOn (slotRect r j).set]{fullShare} (D.Y 1 c))

theorem slot_set0 (r : Fin 4) (j : Fin 3) :
    (slotM 0 r j).view.set = (Memref.whole cc0_scratch3).view.setOn (slotRect r j).set :=
  Eq.trans (Memref.set_view_squeeze _ _) (View.set_slice _ _)
theorem slot_set1 (r : Fin 4) (j : Fin 3) :
    (slotM 1 r j).view.set = (Memref.whole cc0_scratch4).view.setOn (slotRect r j).set :=
  Eq.trans (Memref.set_view_squeeze _ _) (View.set_slice _ _)

theorem slotLd_of (k : Fin 2) (r : Fin 4) (j : Fin 3) (c : Dev nD) : slotPt D k r j c = slotLd D k r j c := by
  unfold slotPt slotLd
  match k with
  | 0 => dsimp only; rw [slot_set0]
  | 1 => dsimp only; rw [slot_set1]

end Cert.Exchange
-- ==== Proof.Walk.lean ====
/-
One step lemma per operation of the exchange, on the joint state of three hops.
-/
module

public import proofs.«01_k».proof.Proof.Trio

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- The phases of three hops after `n` of their nine operations: three copies, then two waits per hop. -/
def stg (n : ℕ) (j : Fin 3) : Ph :=
  if n ≤ j.val then .armed else if n < 4 + 2 * j.val then .sent else if n = 4 + 2 * j.val then .half else .over

theorem stg_zero : stg 0 = fun _ => .armed := rfl
theorem stg_nine : stg 9 = fun _ => .over := by funext j; revert j; decide
theorem stg_copy (j : Fin 3) : Function.update (stg j.val) j .sent = stg (j.val + 1) := by
  funext i; revert i j; decide
theorem stg_back (j : Fin 3) : Function.update (stg (3 + 2 * j.val)) j .half = stg (4 + 2 * j.val) := by
  funext i; revert i j; decide
theorem stg_land (j : Fin 3) : Function.update (stg (4 + 2 * j.val)) j .over = stg (5 + 2 * j.val) := by
  funext i; revert i j; decide
theorem stg_armed (j : Fin 3) : stg j.val j = .armed := by revert j; decide
theorem stg_sent (j : Fin 3) : stg (3 + 2 * j.val) j = .sent := by revert j; decide
theorem stg_half (j : Fin 3) : stg (4 + 2 * j.val) j = .half := by revert j; decide

/-- What a wait takes does not depend on the buffer. -/
theorem credit_eq (v : View sig .tc .vmem S128x1024 .bf16) : v.dmaCredit = N := rfl

section

variable {α : Type} (K : GSem nD τ sig → ℕ) (c : Dev nD)

/-- A copy: the hop's piece leaves. -/
theorem tr_copy (k : Fin 2) (r : Fin 4) (j : Fin 3) (n : ℕ) {dev : Dev nD} {off : Fin 3 → ℕ}
    {hb : ∀ a, off a + S1x128x1024.size a ≤ S4x512x1024.size a} {hst} {hsq}
    {dst : Memref sig .tc .vmem S128x1024 .bf16} {sS sem : DmaSem sig}
    {hsc : dst.view.ref.isScScratch = false} {hsrc} {hdst : dst.view.WordExact}
    {hsem : DmaTarget.Typed .vmem (.dma sem) (.remote (dev : Thread nD τ) dst (.dma sS) hsc)}
    {kont : PUnit → Prog (TpuEff nD τ sig (Elt F) Λ₀ .tc) α} {Q : α → sProp 𝕄}
    (hdev : dev.val = (c.val + j.val + 1) % 4) (hoff : off = ![r.val, 128 * (chunkOf k c j).val, 0])
    (hD : dst = slotM k r j := by rfl)
    (h1 : sS = hopS 0 (k, r, j) := by rfl) (h2 : sem = hopS 1 (k, r, j) := by rfl)
    (hp : pays.drop n = .inr (k, r, j) :: pays.drop (n + 1) := by rfl) :
    iprop(env D K ∗ Tr D c k r (stg j.val) ∗ owing c n)
      ⊢ iprop((iprop(Tr D c k r (stg (j.val + 1)) ∗ owing c (n + 1))
            -∗ wp frame (wpE defs₀ 𝒱₀ (c : Thread nD τ) none) Set.univ (kont ⟨⟩) Q)
          -∗ wp frame (wpE defs₀ 𝒱₀ (c : Thread nD τ) none) Set.univ
            (.op (.enqueueDma (((Memref.whole cc0_scratch2).slice (Rect.unit (s := S4x512x1024) off S1x128x1024.size hb) hst).squeeze
              S128x1024 hsq) (.remote (dev : Thread nD τ) dst (.dma sS) hsc) (.dma sem) hsrc hdst hsem) kont) Q) := by
  subst hoff
  rw [← stg_copy j]
  iintro ⟨#He, HT, HO⟩
  ihave HT2 := (Tr_move D c k r (stg j.val) j .armed .sent (stg_armed j)) $$ HT
  unfold hopPh piece
  icases HT2 with ⟨⟨Hr, Hp⟩, Hback⟩
  iintro Hk
  iapply (copy_step D K c k r j n (Fin.ext hdev) rfl hD h1 h2 hp) $$ [Hr Hp HO]
  · isplitr; · iexact He
    isplitl [Hr]; · iexact Hr
    isplitl [Hp]; · iexact Hp
    iexact HO
  iintro ⟨Hs, HO⟩
  iapply Hk
  isplitr [HO]
  · iapply Hback; iexact Hs
  iexact HO

/-- The wait for one's own copy. -/
theorem tr_back (k : Fin 2) (r : Fin 4) (j : Fin 3) (n : ℕ)
    {src dst : Memref sig .tc .vmem S128x1024 .bf16} {sem : DmaSem sig}
    {hsrc : src.view.WordExact} {hdst : dst.view.WordExact}
    {kont : PUnit → Prog (TpuEff nD τ sig (Elt F) Λ₀ .tc) α} {Q : α → sProp 𝕄}
    (h1 : sem = hopS 0 (k, r, j) := by rfl)
    (hn : ∀ x ∈ pays.drop n, lvS (.dma (hopS 0 (k, r, j))) < x.lvl := by decide) :
    iprop(env D K ∗ Tr D c k r (stg (3 + 2 * j.val)) ∗ owing c n)
      ⊢ iprop((iprop(Tr D c k r (stg (4 + 2 * j.val)) ∗ owing c n)
            -∗ wp frame (wpE defs₀ 𝒱₀ (c : Thread nD τ) none) Set.univ (kont ⟨⟩) Q)
          -∗ wp frame (wpE defs₀ 𝒱₀ (c : Thread nD τ) none) Set.univ (.op (.waitDma2 sem src dst hsrc hdst) kont) Q) := by
  rw [← stg_back j]
  iintro ⟨#He, HT, HO⟩
  ihave HT2 := (Tr_move D c k r (stg (3 + 2 * j.val)) j .sent .half (stg_sent j)) $$ HT
  unfold hopPh piece
  icases HT2 with ⟨Hr, Hback⟩
  iintro Hk
  iapply (back_step D K c k r j n (credit_eq _) h1 hn) $$ [Hr HO]
  · isplitr; · iexact He
    isplitl [Hr]; · iexact Hr
    iexact HO
  iintro ⟨Hs, Hp, HO⟩
  iapply Hk
  isplitr [HO]
  · iapply Hback
    isplitl [Hs]; · iexact Hs
    iexact Hp
  iexact HO

/-- The wait for what the peer sent. -/
theorem tr_land (k : Fin 2) (r : Fin 4) (j : Fin 3) (n : ℕ)
    {src dst : Memref sig .tc .vmem S128x1024 .bf16} {sem : DmaSem sig}
    {hsrc : src.view.WordExact} {hdst : dst.view.WordExact}
    {kont : PUnit → Prog (TpuEff nD τ sig (Elt F) Λ₀ .tc) α} {Q : α → sProp 𝕄}
    (h1 : sem = hopS 1 (k, r, j) := by rfl)
    (hn : ∀ x ∈ pays.drop n, lvS (.dma (hopS 1 (k, r, j))) < x.lvl := by decide) :
    iprop(env D K ∗ Tr D c k r (stg (4 + 2 * j.val)) ∗ owing c n)
      ⊢ iprop((iprop(Tr D c k r (stg (5 + 2 * j.val)) ∗ slotLd D k r j c ∗ owing c n)
            -∗ wp frame (wpE defs₀ 𝒱₀ (c : Thread nD τ) none) Set.univ (kont ⟨⟩) Q)
          -∗ wp frame (wpE defs₀ 𝒱₀ (c : Thread nD τ) none) Set.univ (.op (.waitDma2 sem src dst hsrc hdst) kont) Q) := by
  rw [← slotLd_of]
  rw [← stg_land j]
  iintro ⟨#He, HT, HO⟩
  ihave HT2 := (Tr_move D c k r (stg (4 + 2 * j.val)) j .half .over (stg_half j)) $$ HT
  unfold hopPh
  icases HT2 with ⟨⟨Hr, Hp⟩, Hback⟩
  iintro Hk
  iapply (land_step D K c k r j n (credit_eq _) h1 hn) $$ [Hr HO]
  · isplitr; · iexact He
    isplitl [Hr]; · iexact Hr
    iexact HO
  iintro ⟨Hs, Hl, HO⟩
  iapply Hk
  isplitl [Hs Hp Hback]
  · iapply Hback
    isplitl [Hs]; · iexact Hs
    iexact Hp
  isplitl [Hl]; · iexact Hl
  iexact HO

end

/-! ## The partial-sum buffer, cut into groups and chunks -/

theorem grp_inb (r : Fin 4) :
    ∀ a, (![r.val, 0, 0] : Fin 3 → ℕ) a + S1x512x1024.size a ≤ S4x512x1024.size a := by
  revert r; decide

abbrev grpRect (r : Fin 4) : Rect S4x512x1024 :=
  Rect.unit (s := S4x512x1024) ![r.val, 0, 0] S1x512x1024.size (grp_inb r)

/-- A rectangle of the partial-sum buffer, held for loads and stores. -/
abbrev rectPt (R : Rect S4x512x1024) (q : PosShare TreeShare) (f : S4x512x1024.Idx → Elt F .bf16) (c : Dev nD) : sProp 𝕄 :=
  (Memref.whole cc0_scratch2).view.loc (c : Thread nD τ) ↦[(Memref.whole cc0_scratch2).view.setOn R.set]{q} f

theorem chunk_set (r p : Fin 4) :
    (chunkM r p).view.set = (Memref.whole cc0_scratch2).view.setOn (chunkRect r p).set :=
  Eq.trans (Memref.set_view_squeeze _ _) (View.set_slice _ _)

theorem chunkPt_of (r p : Fin 4) (q : PosShare TreeShare) (f : S4x512x1024.Idx → Elt F .bf16) (c : Dev nD) :
    chunkPt r p q f c = rectPt (chunkRect r p) q f c := by
  unfold chunkPt; rw [chunk_set]

theorem setOn_grp (R : Rect S4x512x1024) : (Memref.whole cc0_scratch2).view.setOn R.set = R.set := by
  exact (View.set_slice (View.whole cc0_scratch2) R).symm.trans (View.set_slice_whole cc0_scratch2 R)

theorem mem_grpRect (r : Fin 4) (i : S4x512x1024.Idx) : i ∈ (grpRect r).set ↔ i 0 = r := by
  rw [Rect.mem_set_unit]
  have h1 : (i 1).val < 512 := (i 1).isLt
  have h2 : (i 2).val < 1024 := (i 2).isLt
  constructor
  · intro h
    have h0 := h 0
    exact Fin.ext (by have h00 : r.val ≤ (i 0).val ∧ (i 0).val < r.val + 1 := h0; omega)
  · rintro rfl a
    match a with
    | 0 => exact ⟨le_rfl, Nat.lt_succ_self _⟩
    | 1 => exact ⟨Nat.zero_le _, by show (i 1).val < 0 + 512; omega⟩
    | 2 => exact ⟨Nat.zero_le _, by show (i 2).val < 0 + 1024; omega⟩

theorem mem_chunkRect (r p : Fin 4) (i : S4x512x1024.Idx) :
    i ∈ (chunkRect r p).set ↔ i 0 = r ∧ 128 * p.val ≤ (i 1).val ∧ (i 1).val < 128 * p.val + 128 := by
  rw [Rect.mem_set_unit]
  have h2 : (i 2).val < 1024 := (i 2).isLt
  constructor
  · intro h
    have h0 : r.val ≤ (i 0).val ∧ (i 0).val < r.val + 1 := h 0
    exact ⟨Fin.ext (by omega), h 1⟩
  · rintro ⟨rfl, h⟩ a
    match a with
    | 0 => exact ⟨le_rfl, Nat.lt_succ_self _⟩
    | 1 => exact h
    | 2 => exact ⟨Nat.zero_le _, by show (i 2).val < 0 + 1024; omega⟩

theorem grp_biUnion : (Finset.univ : Finset (Fin 4)).biUnion (fun r => (grpRect r).set) = Finset.univ := by
  ext i
  simp only [Finset.mem_biUnion, Finset.mem_univ, true_and, iff_true]
  exact ⟨i 0, (mem_grpRect _ i).2 rfl⟩

theorem grp_disj (r r' : Fin 4) (h : r ≠ r') : Disjoint (grpRect r).set (grpRect r').set :=
  Finset.disjoint_left.2 fun i hi hi' => h (((mem_grpRect r i).1 hi).symm.trans ((mem_grpRect r' i).1 hi'))

theorem chunk_biUnion (r : Fin 4) :
    (Finset.univ : Finset (Fin 4)).biUnion (fun p => (chunkRect r p).set) = (grpRect r).set := by
  ext i
  have h1 : (i 1).val < 512 := (i 1).isLt
  simp only [Finset.mem_biUnion, Finset.mem_univ, true_and, mem_chunkRect, mem_grpRect]
  constructor
  · rintro ⟨p, h, -⟩; exact h
  · intro h; exact ⟨⟨(i 1).val / 128, by omega⟩, h, by dsimp only; omega, by dsimp only; omega⟩

theorem chunk_disj (r : Fin 4) (p p' : Fin 4) (h : p ≠ p') : Disjoint (chunkRect r p).set (chunkRect r p').set :=
  Finset.disjoint_left.2 fun i hi hi' => h (Fin.ext (by
    have h1 := ((mem_chunkRect r p i).1 hi).2
    have h2 := ((mem_chunkRect r p' i).1 hi').2
    omega))

/-- The whole buffer is its four groups. -/
theorem buf_grps (f : S4x512x1024.Idx → Elt F .bf16) (c : Dev nD) :
    ((Memref.whole cc0_scratch2).view.loc (c : Thread nD τ) ↦{fullShare} f : sProp 𝕄)
      = bigSep Finset.univ fun r : Fin 4 => rectPt (grpRect r) fullShare f c := by
  have e := pointsTo_biUnion (ℓ := (Memref.whole cc0_scratch2).view.loc (c : Thread nD τ)) (q := fullShare) (f := f)
    (Ix := Unit) (Val := Elt F) (Name := ℕ) (U := UU) (Lvl := ℕ) Finset.univ (fun r : Fin 4 => (grpRect r).set)
    (fun r _ r' _ h => grp_disj r r' h)
  refine (congrArg (fun S => ((Memref.whole cc0_scratch2).view.loc (c : Thread nD τ) ↦[S]{fullShare} f : sProp 𝕄))
    grp_biUnion.symm).trans (e.trans (bigSep_congr fun r _ => ?_))
  unfold rectPt; rw [setOn_grp]

/-- A group is its four chunks. -/
theorem grp_chunks (r : Fin 4) (f : S4x512x1024.Idx → Elt F .bf16) (c : Dev nD) :
    (rectPt (grpRect r) fullShare f c : sProp 𝕄) = bigSep Finset.univ fun p : Fin 4 => chunkPt r p fullShare f c := by
  have e := pointsTo_biUnion (ℓ := (Memref.whole cc0_scratch2).view.loc (c : Thread nD τ)) (q := fullShare) (f := f)
    (Ix := Unit) (Val := Elt F) (Name := ℕ) (U := UU) (Lvl := ℕ) Finset.univ (fun p : Fin 4 => (chunkRect r p).set)
    (fun p _ p' _ h => chunk_disj r p p' h)
  refine (congrArg (fun S => ((Memref.whole cc0_scratch2).view.loc (c : Thread nD τ) ↦[S]{fullShare} f : sProp 𝕄))
    ((setOn_grp _).trans (chunk_biUnion r).symm)).trans (e.trans (bigSep_congr fun p _ => ?_))
  rw [chunkPt_of]; unfold rectPt; rw [setOn_grp]

theorem grpRect_emb (r : Fin 4) (t : Fin 512) (n : Fin 1024) : (grpRect r).emb (ix3 0 t n) = ix3 r t n := by
  funext a
  match a with
  | ⟨0, _⟩ => exact Fin.ext (by show r.val + 1 * 0 = r.val; omega)
  | ⟨1, _⟩ => exact Fin.ext (by show 0 + 1 * t.val = t.val; omega)
  | ⟨2, _⟩ => exact Fin.ext (by show 0 + 1 * n.val = n.val; omega)

/-- A group's contents, by its rows. -/
def grpFill (w : FVec F S1x512x1024 .bf16) : S4x512x1024.Idx → Elt F .bf16 := fun i => w (ix3 0 (i 1) (i 2))

/-- A group's store leaves the group at what was stored. -/
theorem grp_stored (c : Dev nD) (r : Fin 4) (f : S4x512x1024.Idx → Elt F .bf16) (v : FVec F S1x512x1024 .bf16)
    (off : Fin 3 → ℕ) (hb : ∀ a, off a + S1x512x1024.size a ≤ S4x512x1024.size a) (ho : off = ![r.val, 0, 0]) :
    (rectPt (grpRect r) fullShare ((Memref.whole cc0_scratch2).view.writes (Elt F) f
        [⟨Rect.unit (s := S4x512x1024) off S1x512x1024.size hb, v⟩]) c : sProp 𝕄)
      ⊢ iprop(∃ w, ⌜w = v⌝ ∗ rectPt (grpRect r) fullShare (grpFill w) c) := by
  subst ho
  have e : (rectPt (grpRect r) fullShare ((Memref.whole cc0_scratch2).view.writes (Elt F) f [⟨grpRect r, v⟩]) c : sProp 𝕄)
      = rectPt (grpRect r) fullShare (grpFill v) c := by
    refine pointsTo_congr fun i hi => ?_
    rw [setOn_grp, mem_grpRect] at hi
    obtain ⟨a, t, n, rfl⟩ : ∃ a t n, i = ix3 a t n := ⟨_, _, _, eq_ix3 i⟩
    have ha : a = r := hi
    subst ha
    rw [← grpRect_emb a t n]
    refine (View.write_emb_of_mem (v := (Memref.whole cc0_scratch2).view.slice (grpRect a)) f v
      (Finset.mem_univ (ix3 0 t n))).trans ?_
    rw [grpRect_emb a t n]; rfl
  rw [e]
  iintro H
  iexists v
  isplitr; · ipureintro; rfl
  iexact H

theorem grp_fill (I : Dev nD → In F) (c : Dev nD) (r : Fin 4) :
    (rectPt (grpRect r) fullShare (grpFill (grp I c r)) c : sProp 𝕄) = rectPt (grpRect r) fullShare (gOf I c) c := by
  refine pointsTo_congr fun i hi => ?_
  rw [setOn_grp, mem_grpRect] at hi
  subst hi
  rfl

theorem others (c : Dev nD) : (Finset.univ : Finset (Fin 4)).erase c = Finset.univ.image (fun j : Fin 3 => peer c j) := by
  revert c; decide

theorem peer_inj (c : Dev nD) : ∀ a b : Fin 3, peer c a = peer c b → a = b := by revert c; decide

/-- Four chunks: one's own and the three peers'. -/
theorem chunk_own (c : Dev nD) (Φ : Fin 4 → sProp 𝕄) :
    bigSep Finset.univ Φ = iprop(Φ c ∗ bigSep Finset.univ fun j : Fin 3 => Φ (peer c j)) := by
  refine (bigSep_erase (Finset.mem_univ c)).trans ?_
  rw [others, bigSep_image_of_injOn (fun a _ b _ h => peer_inj c a b h)]
  rfl

end Cert.Exchange
-- ==== Proof.Chunks.lean ====
/-
From what a device is launched with to three hops ready, armed, over, and back to whole buffers.
-/
module

public import proofs.«01_k».proof.Proof.Walk

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

theorem bigSep3 (Φ : Fin 3 → sProp 𝕄) : bigSep Finset.univ Φ = iprop(Φ 0 ∗ Φ 1 ∗ Φ 2) :=
  bigSep_univ_eq_bigSepL [0, 1, 2] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_swap3 {J : Type} [Fintype J] (Φ : Fin 3 → J → sProp 𝕄) :
    (bigSep Finset.univ fun j => bigSep Finset.univ fun x => Φ j x)
      = bigSep Finset.univ fun x => bigSep Finset.univ fun j => Φ j x := by
  rw [bigSep3]
  refine Eq.trans ?_ (bigSep_congr fun x _ => (bigSep3 (fun j => Φ j x)).symm)
  rw [bigSep_sep', bigSep_sep']

variable (c : Dev nD)

/-! ## Ready -/

/-- All eight trios in one phase. -/
def Trs (p : Ph) : sProp 𝕄 := bigSep Finset.univ fun k : Fin 2 => bigSep Finset.univ fun r : Fin 4 => Tr D c k r (fun _ => p)

theorem Trs_eq (p : Ph) : (Trs D c p : sProp 𝕄)
    = iprop((Tr D c 0 0 (fun _ => p) ∗ Tr D c 0 1 (fun _ => p) ∗ Tr D c 0 2 (fun _ => p) ∗ Tr D c 0 3 (fun _ => p))
      ∗ Tr D c 1 0 (fun _ => p) ∗ Tr D c 1 1 (fun _ => p) ∗ Tr D c 1 2 (fun _ => p) ∗ Tr D c 1 3 (fun _ => p)) := by
  unfold Trs; rw [bigSep_fin_two, bigSep4, bigSep4]; rfl

/-- What a device keeps through the barrier for its hops. -/
def hopKeep (h : Hop) : sProp 𝕄 := iprop(hopTok (F := F) c h ∗ hopPos c h)

theorem trs_ready :
    iprop(bigSep Finset.univ (hopKeep (F := F) c) ∗ bigSep Finset.univ (fun j : Fin 3 => barPay (F := F) c j))
      ⊢ Trs D c .ready := by
  have e1 : (bigSep Finset.univ fun j : Fin 3 => barPay (F := F) c j)
      = bigSep Finset.univ fun k : Fin 2 => bigSep Finset.univ fun r : Fin 4 => bigSep Finset.univ fun j : Fin 3 =>
          hopSlot (F := F) c (k, r, j) := by
    refine (bigSep_swap3 (fun (j : Fin 3) (x : Fin 2 × Fin 4) => hopSlot (F := F) c (x.1, x.2, j))).trans ?_
    rw [bigSep_univ_prod]
  have e2 : (bigSep Finset.univ (hopKeep (F := F) c))
      = bigSep Finset.univ fun k : Fin 2 => bigSep Finset.univ fun r : Fin 4 => bigSep Finset.univ fun j : Fin 3 =>
          hopKeep (F := F) c (k, r, j) := by
    rw [bigSep_univ_prod]
    exact bigSep_congr fun k _ => by rw [bigSep_univ_prod]
  rw [e1, e2, ← bigSep_sep']
  unfold Trs
  refine bigSep_mono fun k _ => ?_
  rw [← bigSep_sep']
  refine bigSep_mono fun r _ => ?_
  rw [← bigSep_sep']
  unfold Tr
  refine bigSep_mono fun j _ => ?_
  show iprop((hopTok c (k, r, j) ∗ hopPos c (k, r, j)) ∗ hopSlot (F := F) c (k, r, j)) ⊢ hopReady c (k, r, j)
  unfold hopReady
  iintro ⟨⟨Ht, Hp⟩, Hs⟩
  isplitl [Ht]; · iexact Ht
  isplitl [Hs]; · iexact Hs
  iexact Hp

/-! ## Armed and over -/

theorem Tr_armed (k : Fin 2) (r : Fin 4) :
    Tr D c k r (fun _ => .armed) = iprop(Tr D c k r (fun _ => .ready) ∗ bigSep Finset.univ fun j : Fin 3 => piece D c (k, r, j)) := by
  unfold Tr; rw [← bigSep_sep']; rfl
theorem Tr_over (k : Fin 2) (r : Fin 4) :
    Tr D c k r (fun _ => .over) = iprop((bigSep Finset.univ fun j : Fin 3 => hopDone (F := F) c (k, r, j))
      ∗ bigSep Finset.univ fun j : Fin 3 => piece D c (k, r, j)) := by
  unfold Tr; rw [← bigSep_sep']; rfl

/-- A group's pieces for its first three copies, and one's own rows. -/
theorem grp_pieces0 (r : Fin 4) : (rectPt (grpRect r) fullShare (D.G c) c : sProp 𝕄)
    = iprop(rectPt (chunkRect r c) fullShare (D.G c) c ∗ bigSep Finset.univ fun j : Fin 3 => piece D c (0, r, j)) := by
  rw [grp_chunks, chunk_own c, chunkPt_of]; rfl

/-- One's own finished rows, three times to read. -/
theorem own_pieces1 (r : Fin 4) : (rectPt (chunkRect r c) fullShare (D.A c) c : sProp 𝕄)
    = bigSep Finset.univ fun j : Fin 3 => piece D c (1, r, j) := by
  rw [bigSep3, ← chunkPt_of]
  show _ = iprop(chunkPt r c fullShare.left (D.A c) c ∗ chunkPt r c fullShare.right.left (D.A c) c
    ∗ chunkPt r c fullShare.right.right (D.A c) c)
  have h1 : (chunkPt r c fullShare (D.A c) c : sProp 𝕄)
      = iprop(chunkPt r c fullShare.left (D.A c) c ∗ chunkPt r c fullShare.right (D.A c) c) := by
    unfold chunkPt
    exact BI.equiv_iff.mp ⟨(pointsTo_share (PosShare.mem_left_op_right _)).1, (pointsTo_share (PosShare.mem_left_op_right _)).2⟩
  have h2 : (chunkPt r c fullShare.right (D.A c) c : sProp 𝕄)
      = iprop(chunkPt r c fullShare.right.left (D.A c) c ∗ chunkPt r c fullShare.right.right (D.A c) c) := by
    unfold chunkPt
    exact BI.equiv_iff.mp ⟨(pointsTo_share (PosShare.mem_left_op_right _)).1, (pointsTo_share (PosShare.mem_left_op_right _)).2⟩
  rw [h1, h2]

theorem arm0 (r : Fin 4) :
    iprop(Tr D c 0 r (fun _ => .ready) ∗ rectPt (grpRect r) fullShare (D.G c) c)
      ⊢ iprop(Tr D c 0 r (stg 0) ∗ rectPt (chunkRect r c) fullShare (D.G c) c) := by
  rw [grp_pieces0 D c r, stg_zero, Tr_armed]
  iintro ⟨H, H1, H2⟩
  isplitr [H1]
  · isplitl [H]; · iexact H
    iexact H2
  iexact H1

theorem arm1 (r : Fin 4) :
    iprop(Tr D c 1 r (fun _ => .ready) ∗ rectPt (chunkRect r c) fullShare (D.A c) c) ⊢ Tr D c 1 r (stg 0) := by
  rw [own_pieces1 D c r, stg_zero, Tr_armed]

/-- A rectangle of the partial-sum buffer at contents not chosen. -/
def rectAny (R : Rect S4x512x1024) : sProp 𝕄 := iprop(∃ f, rectPt (F := F) R fullShare f c)

/-- A group's copies over: its buffer is back. -/
theorem disarm (r : Fin 4) :
    iprop(Tr D c 0 r (stg 9) ∗ Tr D c 1 r (stg 9))
      ⊢ iprop(((bigSep Finset.univ fun j : Fin 3 => hopDone (F := F) c (0, r, j))
          ∗ bigSep Finset.univ fun j : Fin 3 => hopDone (F := F) c (1, r, j)) ∗ rectAny (F := F) c (grpRect r)) := by
  rw [stg_nine, Tr_over, Tr_over, ← own_pieces1]
  iintro ⟨⟨H1, H2⟩, H3, H4⟩
  isplitl [H1 H3]
  · isplitl [H1]; · iexact H1
    iexact H3
  have hj := pointsTo_biUnion_join (ℓ := (Memref.whole cc0_scratch2).view.loc (c : Thread nD τ)) (q := fullShare)
    (Ix := Unit) (Val := Elt F) (Name := ℕ) (U := UU) (Lvl := ℕ) Finset.univ (fun p : Fin 4 => (chunkRect r p).set)
    (fun p => if p = c then D.A c else D.G c) (D.G c) (fun p _ p' _ h => chunk_disj r p p' h)
  have e : (bigSep Finset.univ fun p : Fin 4 => ((Memref.whole cc0_scratch2).view.loc (c : Thread nD τ)
        ↦[(chunkRect r p).set]{fullShare} (if p = c then D.A c else D.G c) : sProp 𝕄))
      = iprop(rectPt (chunkRect r c) fullShare (D.A c) c ∗ bigSep Finset.univ fun j : Fin 3 => piece D c (0, r, j)) := by
    refine (chunk_own c _).trans ?_
    refine congrArg₂ (fun X Y => iprop(X ∗ Y)) ?_ ?_
    · dsimp only; rw [if_pos rfl]; unfold rectPt; rw [setOn_grp]
    · refine bigSep_congr fun j _ => ?_
      dsimp only; rw [if_neg (peer_ne c j)]
      show _ = chunkPt r (peer c j) fullShare (D.G c) c
      rw [chunkPt_of]; unfold rectPt; rw [setOn_grp]
  ihave H := (Entails.of_eq e.symm) $$ [H4 H2]
  · isplitl [H4]; · iexact H4
    iexact H2
  ihave H := hj $$ H
  icases H with ⟨%g, -, H⟩
  unfold rectAny
  iexists g
  unfold rectPt
  rw [setOn_grp, ← chunk_biUnion]
  iexact H

/-- Four groups back are the buffer back. -/
theorem grps_back : (bigSep Finset.univ fun r : Fin 4 => rectAny (F := F) c (grpRect r))
    ⊢ iprop(∃ f, (Memref.whole cc0_scratch2).view.loc (c : Thread nD τ) ↦{fullShare} f : sProp 𝕄) := by
  have e : ∀ r, rectAny (F := F) c (grpRect r)
      = iprop(∃ f, (Memref.whole cc0_scratch2).view.loc (c : Thread nD τ) ↦[(grpRect r).set]{fullShare} f) := fun r => by
    unfold rectAny rectPt; rw [setOn_grp]; rfl
  rw [bigSep4, e, e, e, e]
  iintro ⟨⟨%f0, H0⟩, ⟨%f1, H1⟩, ⟨%f2, H2⟩, ⟨%f3, H3⟩⟩
  have hj := pointsTo_biUnion_join (ℓ := (Memref.whole cc0_scratch2).view.loc (c : Thread nD τ)) (q := fullShare)
    (Ix := Unit) (Val := Elt F) (Name := ℕ) (U := UU) (Lvl := ℕ) Finset.univ (fun r : Fin 4 => (grpRect r).set)
    (fun r => (![f0, f1, f2, f3] : Fin 4 → S4x512x1024.Idx → Elt F .bf16) r) f0 (fun p _ p' _ h => grp_disj p p' h)
  rw [bigSep4] at hj
  ihave H := hj $$ [H0 H1 H2 H3]
  · isplitl [H0]; · iexact H0
    isplitl [H1]; · iexact H1
    isplitl [H2]; · iexact H2
    iexact H3
  icases H with ⟨%g, -, H⟩
  iexists g
  rw [grp_biUnion]
  iexact H

/-! ## One's own rows, finished -/

theorem chunkRect_emb3 (r p : Fin 4) (t : Fin 128) (n : Fin 1024) :
    (chunkRect r p).emb (ix3 0 t n) = ix3 r ⟨128 * p.val + t.val, chunk_lt p t⟩ n := by
  funext a
  match a with
  | ⟨0, _⟩ => exact Fin.ext (by show r.val + 1 * 0 = r.val; omega)
  | ⟨1, _⟩ => exact Fin.ext (by show 128 * p.val + 1 * t.val = 128 * p.val + t.val; omega)
  | ⟨2, _⟩ => exact Fin.ext (by show 0 + 1 * n.val = n.val; omega)

/-- The sum of a device's own rows, its own part loaded at an offset written otherwise. -/
def accL (r : Fin 4) (off : Fin 3 → ℕ) (hb : ∀ a, off a + S1x128x1024.size a ≤ S4x512x1024.size a) : FVec F S128x1024 .f32 :=
  k0_pay43 (View.readAt (Elt F) (Memref.whole cc0_scratch2).view
      (Rect.unit (s := S4x512x1024) off S1x128x1024.size hb).toLoadRect (D.G c))
    (ldSlot (D.Y 0 c) r 0) (ldSlot (D.Y 0 c) r 1) (ldSlot (D.Y 0 c) r 2)

theorem accL_eq (r : Fin 4) {off : Fin 3 → ℕ} (hb) (ho : off = ![r.val, 128 * c.val, 0]) : accL D c r off hb = accOf D c r := by
  subst ho; rfl

/-- A device's own rows, once the sum is stored over them. -/
theorem acc_stored (hA : ∀ (r : Fin 4) (t : Fin 128) (n : Fin 1024),
      D.A c (ix3 r ⟨128 * c.val + t.val, chunk_lt c t⟩ n) = accB D c r (ix3 0 t n))
    (r : Fin 4) {g f : S4x512x1024.Idx → Elt F .bf16}
    (off : Fin 3 → ℕ) (hb : ∀ a, off a + S1x128x1024.size a ≤ S4x512x1024.size a) (ho : off = ![r.val, 128 * c.val, 0])
    (v : FVec F S1x128x1024 .bf16)
    (hg : g = ((Memref.whole cc0_scratch2).view.slice
      (Rect.unit (s := S4x512x1024) off S1x128x1024.size hb)).write (Elt F) f v Finset.univ)
    (hv : v = shapeCast S1x128x1024 (truncf .bf16 (accL D c r off hb) bitsLt_bf16_f32) shapeCasts_S128x1024_S1x128x1024) :
    (rectPt (chunkRect r c) fullShare g c : sProp 𝕄) = rectPt (chunkRect r c) fullShare (D.A c) c := by
  rw [accL_eq D c r hb ho] at hv
  have hv : v = accB D c r := hv
  subst ho hv hg
  refine pointsTo_congr fun i hi => ?_
  obtain ⟨x, hx, rfl⟩ := Finset.mem_map.mp hi
  rw [← Rect.map_emb_univ] at hx
  obtain ⟨y, -, rfl⟩ := Finset.mem_map.mp hx
  obtain ⟨a, t, n, rfl⟩ : ∃ a t n, y = ix3 a t n := ⟨_, _, _, eq_ix3 y⟩
  have ha : a = 0 := Subsingleton.elim _ _
  subst ha
  refine (View.write_emb_of_mem (v := (Memref.whole cc0_scratch2).view.slice (chunkRect r c)) f (accB D c r)
    (Finset.mem_univ (ix3 0 t n))).trans ?_
  refine Eq.trans ?_ ((congrArg (D.A c) (chunkRect_emb3 r c t n)).trans (hA r t n)).symm
  rfl

/-- Contents under a new name. -/
theorem any_ct {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H
  iexists f
  isplitr; · ipureintro; rfl
  iexact H

/-! ## Pairs of output blocks -/

/-- Two stores of one window each, the second over the first. -/
def outTwo (f : S2048x1024.Idx → Elt F .f32) (off off' : Fin 2 → ℕ)
    (hb : ∀ a, off a + S64x1024.size a ≤ S2048x1024.size a) (hb' : ∀ a, off' a + S64x1024.size a ≤ S2048x1024.size a)
    (v v' : FVec F S64x1024 .f32) : S2048x1024.Idx → Elt F .f32 :=
  ((Memref.whole cc0_stg3_0).view.slice (Rect.unit (s := S2048x1024) off' S64x1024.size hb')).write (Elt F)
    (((Memref.whole cc0_stg3_0).view.slice (Rect.unit (s := S2048x1024) off S64x1024.size hb)).write (Elt F) f v Finset.univ)
    v' Finset.univ

theorem done_own (r : Fin 4) {l : List Blk} {g f : S2048x1024.Idx → Elt F .f32} (h : Done D c l f) {off off' : Fin 2 → ℕ}
    {offL : Fin 3 → ℕ} (hbL) (hoL : offL = ![r.val, 128 * c.val, 0])
    {hb hb'} {v v' : FVec F S64x1024 .f32} (hg : g = outTwo f off off' hb hb' v v')
    (ho : off = ![512 * c.val + 64 * r.val, 0]) (ho' : off' = ![512 * c.val + 64 * r.val + 256, 0])
    (hv : v = extractStridedSlice S64x1024 ![0, 0] (accL D c r offL hbL) slices_S128x1024_o0_0_S64x1024)
    (hv' : v' = extractStridedSlice S64x1024 ![64, 0] (accL D c r offL hbL) slices_S128x1024_o64_0_S64x1024) :
    Done D c ((c, 1, r) :: (c, 0, r) :: l) g := by
  subst hg
  rw [accL_eq D c r hbL hoL] at hv hv'
  refine done_store D c (done_store D c h (c, 0, r) off hb ?_ v ?_) (c, 1, r) off' hb' ?_ v' ?_
  · rw [ho]; unfold row0; exact congrArg (fun x => ![x, 0]) (by show _ = 512 * c.val + 256 * 0 + 64 * r.val; omega)
  · rw [hv]; unfold blk; exact ((if_pos rfl).trans (if_pos rfl)).symm
  · rw [ho']; unfold row0; exact congrArg (fun x => ![x, 0]) (by show _ = 512 * c.val + 256 * 1 + 64 * r.val; omega)
  · rw [hv']; unfold blk; exact ((if_pos rfl).trans (if_neg (show ¬(1 : Fin 2) = 0 by decide))).symm

theorem peer_back (c : Dev nD) (j : Fin 3) : (peer c j.rev).val = ((c.val + 7) - j.val) % 4 := by revert c j; decide

theorem done_peer (r : Fin 4) (j : Fin 3) {l : List Blk} {g f : S2048x1024.Idx → Elt F .f32} (h : Done D c l f)
    {off off' : Fin 2 → ℕ} {hb hb'} {v v' : FVec F S64x1024 .f32} (hg : g = outTwo f off off' hb hb' v v')
    (ho : off = ![512 * (((c.val + 7) - j.val) % 4) + 64 * r.val, 0])
    (ho' : off' = ![512 * (((c.val + 7) - j.val) % 4) + 64 * r.val + 256, 0])
    (hv : v = k0_pay2 (ldSlot (D.Y 1 c) r j)) (hv' : v' = k0_pay3 (ldSlot (D.Y 1 c) r j)) :
    Done D c ((peer c j.rev, 1, r) :: (peer c j.rev, 0, r) :: l) g := by
  subst hg
  have hp : (peer c j.rev).val = ((c.val + 7) - j.val) % 4  := peer_back c j
  refine done_store D c (done_store D c h (peer c j.rev, 0, r) off hb ?_ v ?_) (peer c j.rev, 1, r) off' hb' ?_ v' ?_
  · rw [ho, ← hp]; unfold row0
    exact congrArg (fun x => ![x, 0]) (by show _ = 512 * (peer c j.rev).val + 256 * 0 + 64 * r.val; omega)
  · rw [hv]; unfold blk
    exact (((if_neg (peer_ne c j.rev)).trans (if_pos rfl)).trans (by dsimp only; rw [slotFrom_peer])).symm
  · rw [ho', ← hp]; unfold row0
    exact congrArg (fun x => ![x, 0]) (by show _ = 512 * (peer c j.rev).val + 256 * 1 + 64 * r.val; omega)
  · rw [hv']; unfold blk
    exact (((if_neg (peer_ne c j.rev)).trans (if_neg (show ¬(1 : Fin 2) = 0 by decide))).trans
      (by dsimp only; rw [slotFrom_peer])).symm

/-! ## Landing buffers -/

theorem slot_disj0 : ∀ x ∈ (Finset.univ : Finset (Fin 4 × Fin 3)), ∀ x' ∈ (Finset.univ : Finset (Fin 4 × Fin 3)), x ≠ x' →
    Disjoint (slotRect x.1 x.2).set (slotRect x'.1 x'.2).set := by
  intro x _ x' _ h
  refine Finset.disjoint_left.2 fun i hi hi' => h ?_
  rw [Rect.mem_set_unit] at hi hi'
  have a0 : x.1.val ≤ (i 0).val ∧ (i 0).val < x.1.val + 1 := hi 0
  have a1 : x.2.val ≤ (i 1).val ∧ (i 1).val < x.2.val + 1 := hi 1
  have b0 : x'.1.val ≤ (i 0).val ∧ (i 0).val < x'.1.val + 1 := hi' 0
  have b1 : x'.2.val ≤ (i 1).val ∧ (i 1).val < x'.2.val + 1 := hi' 1
  exact Prod.ext (Fin.ext (by omega)) (Fin.ext (by omega))

theorem slot_biUnion : (Finset.univ : Finset (Fin 4 × Fin 3)).biUnion (fun x => (slotRect x.1 x.2).set) = Finset.univ := by
  ext i
  simp only [Finset.mem_biUnion, Finset.mem_univ, true_and, iff_true]
  refine ⟨(i 0, i 1), ?_⟩
  rw [Rect.mem_set_unit]
  have h2 : (i 2).val < 128 := (i 2).isLt
  have h3 : (i 3).val < 1024 := (i 3).isLt
  intro a
  match a with
  | 0 => exact ⟨le_rfl, Nat.lt_succ_self _⟩
  | 1 => exact ⟨le_rfl, Nat.lt_succ_self _⟩
  | 2 => exact ⟨Nat.zero_le _, by show (i 2).val < 0 + 128; omega⟩
  | 3 => exact ⟨Nat.zero_le _, by show (i 3).val < 0 + 1024; omega⟩

theorem setOn3 (R : Rect S4x3x128x1024) : (Memref.whole cc0_scratch3).view.setOn R.set = R.set :=
  (View.set_slice (View.whole cc0_scratch3) R).symm.trans (View.set_slice_whole cc0_scratch3 R)
theorem setOn4 (R : Rect S4x3x128x1024) : (Memref.whole cc0_scratch4).view.setOn R.set = R.set :=
  (View.set_slice (View.whole cc0_scratch4) R).symm.trans (View.set_slice_whole cc0_scratch4 R)

theorem slots_whole0 (f : S4x3x128x1024.Idx → Elt F .bf16) :
    ((Memref.whole cc0_scratch3).view.loc (c : Thread nD τ) ↦{fullShare} f : sProp 𝕄)
      = bigSep Finset.univ fun x : Fin 4 × Fin 3 =>
        ((Memref.whole cc0_scratch3).view.loc (c : Thread nD τ) ↦[(Memref.whole cc0_scratch3).view.setOn (slotRect x.1 x.2).set]{fullShare} f : sProp 𝕄) := by
  have e := pointsTo_biUnion (ℓ := (Memref.whole cc0_scratch3).view.loc (c : Thread nD τ)) (q := fullShare) (f := f)
    (Ix := Unit) (Val := Elt F) (Name := ℕ) (U := UU) (Lvl := ℕ) Finset.univ (fun x : Fin 4 × Fin 3 => (slotRect x.1 x.2).set)
    slot_disj0
  refine (congrArg (fun S => ((Memref.whole cc0_scratch3).view.loc (c : Thread nD τ) ↦[S]{fullShare} f : sProp 𝕄))
    slot_biUnion.symm).trans (e.trans (bigSep_congr fun x _ => ?_))
  rw [setOn3]
theorem slots_whole1 (f : S4x3x128x1024.Idx → Elt F .bf16) :
    ((Memref.whole cc0_scratch4).view.loc (c : Thread nD τ) ↦{fullShare} f : sProp 𝕄)
      = bigSep Finset.univ fun x : Fin 4 × Fin 3 =>
        ((Memref.whole cc0_scratch4).view.loc (c : Thread nD τ) ↦[(Memref.whole cc0_scratch4).view.setOn (slotRect x.1 x.2).set]{fullShare} f : sProp 𝕄) := by
  have e := pointsTo_biUnion (ℓ := (Memref.whole cc0_scratch4).view.loc (c : Thread nD τ)) (q := fullShare) (f := f)
    (Ix := Unit) (Val := Elt F) (Name := ℕ) (U := UU) (Lvl := ℕ) Finset.univ (fun x : Fin 4 × Fin 3 => (slotRect x.1 x.2).set)
    slot_disj0
  refine (congrArg (fun S => ((Memref.whole cc0_scratch4).view.loc (c : Thread nD τ) ↦[S]{fullShare} f : sProp 𝕄))
    slot_biUnion.symm).trans (e.trans (bigSep_congr fun x _ => ?_))
  rw [setOn4]

/-- All slots of a kind, landed: the landing buffer. -/
theorem slots_back0 : (bigSep Finset.univ fun x : Fin 4 × Fin 3 => slotLd D 0 x.1 x.2 c)
    = ((Memref.whole cc0_scratch3).view.loc (c : Thread nD τ) ↦{fullShare} (D.Y 0 c) : sProp 𝕄) := (slots_whole0 c _).symm
theorem slots_back1 : (bigSep Finset.univ fun x : Fin 4 × Fin 3 => slotLd D 1 x.1 x.2 c)
    = ((Memref.whole cc0_scratch4).view.loc (c : Thread nD τ) ↦{fullShare} (D.Y 1 c) : sProp 𝕄) := (slots_whole1 c _).symm

/-- The landing buffers, cut into what is handed to the peers. -/
theorem slots_cut (f3 f4 : S4x3x128x1024.Idx → Elt F .bf16) :
    iprop((Memref.whole cc0_scratch3).view.loc (c : Thread nD τ) ↦{fullShare} f3)
      ∗ ((Memref.whole cc0_scratch4).view.loc (c : Thread nD τ) ↦{fullShare} f4)
      ⊢ (bigSep Finset.univ fun j : Fin 3 => bigSep Finset.univ fun x : Fin 2 × Fin 4 => slotAny (F := F) x.1 x.2 j c : sProp 𝕄) := by
  have h0 : ((Memref.whole cc0_scratch3).view.loc (c : Thread nD τ) ↦{fullShare} f3 : sProp 𝕄)
      ⊢ bigSep Finset.univ fun r : Fin 4 => bigSep Finset.univ fun j : Fin 3 => slotAny (F := F) 0 r j c := by
    rw [slots_whole0, bigSep_univ_prod]
    refine bigSep_mono fun r _ => bigSep_mono fun j _ => ?_
    show ((Memref.whole cc0_scratch3).view.loc (c : Thread nD τ) ↦[(Memref.whole cc0_scratch3).view.setOn (slotRect r j).set]{fullShare} f3 : sProp 𝕄) ⊢ _
    unfold slotAny; rw [slot_set0]
    iintro H; iexists f3; iexact H
  have h1 : ((Memref.whole cc0_scratch4).view.loc (c : Thread nD τ) ↦{fullShare} f4 : sProp 𝕄)
      ⊢ bigSep Finset.univ fun r : Fin 4 => bigSep Finset.univ fun j : Fin 3 => slotAny (F := F) 1 r j c := by
    rw [slots_whole1, bigSep_univ_prod]
    refine bigSep_mono fun r _ => bigSep_mono fun j _ => ?_
    show ((Memref.whole cc0_scratch4).view.loc (c : Thread nD τ) ↦[(Memref.whole cc0_scratch4).view.setOn (slotRect r j).set]{fullShare} f4 : sProp 𝕄) ⊢ _
    unfold slotAny; rw [slot_set1]
    iintro H; iexists f4; iexact H
  refine (BI.sep_mono h0 h1).trans ?_
  have e : (bigSep Finset.univ fun j : Fin 3 => bigSep Finset.univ fun x : Fin 2 × Fin 4 => slotAny (F := F) x.1 x.2 j c)
      = iprop((bigSep Finset.univ fun r : Fin 4 => bigSep Finset.univ fun j : Fin 3 => slotAny (F := F) 0 r j c)
        ∗ bigSep Finset.univ fun r : Fin 4 => bigSep Finset.univ fun j : Fin 3 => slotAny (F := F) 1 r j c) := by
    refine (bigSep_swap3 (fun (j : Fin 3) (x : Fin 2 × Fin 4) => slotAny (F := F) x.1 x.2 j c)).trans ?_
    rw [bigSep_univ_prod, bigSep_fin_two]; rfl
  exact Entails.of_eq e.symm

end Cert.Exchange
-- ==== Proof.Finish.lean ====
/-
What a device holds when its run ends.
-/
module

public import proofs.«01_k».proof.Proof.Chunks

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer. -/
abbrev pt (c : Dev nD) (b : Ref sig .tc) (f : b.ty.Contents (Elt F)) : sProp 𝕄 :=
  (Memref.whole b).view.loc (c : Thread nD τ) ↦{fullShare} f

abbrev prog : Prog (TpuEff nD τ sig (Elt F) Λ₀ .tc) PUnit :=
  cc0__body (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9

variable (D : Data F) (I : Dev nD → In F) (c : Dev nD)

/-- A whole buffer with contents nobody asks for. -/
def someOf (b : Ref sig .tc) : sProp 𝕄 := iprop(∃ f : b.ty.Contents (Elt F), pt c b f)

/-- A group's copies over. -/
def hopEnds (r : Fin 4) : sProp 𝕄 :=
  iprop((bigSep Finset.univ fun j : Fin 3 => hopDone (F := F) c (0, r, j))
    ∗ bigSep Finset.univ fun j : Fin 3 => hopDone (F := F) c (1, r, j))

theorem disarm' (r : Fin 4) : iprop(Tr D c 0 r (stg 9) ∗ Tr D c 1 r (stg 9)) ⊢ iprop(hopEnds (F := F) c r ∗ rectAny (F := F) c (grpRect r)) :=
  disarm D c r

theorem hopEnds_all : iprop(hopEnds (F := F) c 0 ∗ hopEnds (F := F) c 1 ∗ hopEnds (F := F) c 2 ∗ hopEnds (F := F) c 3)
    ⊢ bigSep Finset.univ (hopDone (F := F) c) := by
  have e : (bigSep Finset.univ (hopDone (F := F) c))
      = bigSep Finset.univ fun r : Fin 4 => hopEnds (F := F) c r := by
    unfold hopEnds
    rw [bigSep_sep', bigSep_univ_prod, bigSep_fin_two, bigSep_univ_prod, bigSep_univ_prod]
    rfl
  rw [e, bigSep4]

/-- All hops over: the group buffer is back. -/
theorem disarm_all : iprop((Tr D c 0 0 (stg 9) ∗ Tr D c 1 0 (stg 9)) ∗ (Tr D c 0 1 (stg 9) ∗ Tr D c 1 1 (stg 9))
      ∗ (Tr D c 0 2 (stg 9) ∗ Tr D c 1 2 (stg 9)) ∗ (Tr D c 0 3 (stg 9) ∗ Tr D c 1 3 (stg 9)))
    ⊢ iprop(bigSep Finset.univ (hopDone (F := F) c) ∗ someOf (F := F) c cc0_scratch2) := by
  iintro ⟨H0, H1, H2, H3⟩
  ihave H0 := (disarm' D c 0) $$ H0
  ihave H1 := (disarm' D c 1) $$ H1
  ihave H2 := (disarm' D c 2) $$ H2
  ihave H3 := (disarm' D c 3) $$ H3
  icases H0 with ⟨H0, G0⟩
  icases H1 with ⟨H1, G1⟩
  icases H2 with ⟨H2, G2⟩
  icases H3 with ⟨H3, G3⟩
  isplitl [H0 H1 H2 H3]
  · iapply (hopEnds_all c)
    isplitl [H0]; · iexact H0
    isplitl [H1]; · iexact H1
    isplitl [H2]; · iexact H2
    iexact H3
  · ihave HG := ((Entails.of_eq (bigSep4 _).symm).trans (grps_back c)) $$ [G0 G1 G2 G3]
    · isplitl [G0]; · iexact G0
      isplitl [G1]; · iexact G1
      isplitl [G2]; · iexact G2
      iexact G3
    unfold someOf
    iexact HG

/-- The slots of a kind, one by one. -/
abbrev slotRow (k : Fin 2) (r : Fin 4) : sProp 𝕄 := iprop(slotLd D k r 0 c ∗ slotLd D k r 1 c ∗ slotLd D k r 2 c)

theorem slots_join0 : iprop(slotRow D c 0 0 ∗ slotRow D c 0 1 ∗ slotRow D c 0 2 ∗ slotRow D c 0 3) ⊢ someOf (F := F) c cc0_scratch3 := by
  have e := slots_back0 D c
  rw [bigSep_univ_prod, bigSep4, bigSep3, bigSep3, bigSep3, bigSep3] at e
  refine (Entails.of_eq e).trans ?_
  unfold someOf
  iintro H
  iexists _
  iexact H
theorem slots_join1 : iprop(slotRow D c 1 0 ∗ slotRow D c 1 1 ∗ slotRow D c 1 2 ∗ slotRow D c 1 3) ⊢ someOf (F := F) c cc0_scratch4 := by
  have e := slots_back1 D c
  rw [bigSep_univ_prod, bigSep4, bigSep3, bigSep3, bigSep3, bigSep3] at e
  refine (Entails.of_eq e).trans ?_
  unfold someOf
  iintro H
  iexists _
  iexact H

/-- What a device holds after its run. -/
def bodyPost : sProp 𝕄 :=
  iprop(pt c cc0_stg0_0 (I c).x ∗ pt c cc0_stg1_0 (I c).wq ∗ pt c cc0_stg2_0 (I c).wo ∗ pt c main_arg2 (I c).k
     ∗ pt c main_arg3 (I c).v ∗ pt c cc0_stg3_0 (OutF D c)
     ∗ someOf (F := F) c cc0_scratch0 ∗ someOf (F := F) c cc0_scratch1 ∗ someOf (F := F) c cc0_scratch2
     ∗ someOf (F := F) c cc0_scratch3 ∗ someOf (F := F) c cc0_scratch4
     ∗ semVal ((c : Thread nD τ), .dma 4) 0 ∗ semVal ((c : Thread nD τ), .dma 5) 0 ∗ owing c 27
     ∗ atPos ER (barCell c) 1 (∅ : Finset Duty) 0 ∗ bigSep Finset.univ (hopDone (F := F) c))

theorem ret_intro (Q : PUnit → sProp 𝕄) :
    (|={Set.univ}=> Q ⟨⟩) ⊢ wp frame (wpE (defs₀ (F := F)) 𝒱₀ (c : Thread nD τ) none) Set.univ (Prog.ret ⟨⟩) Q :=
  Entails.of_eq (wp_ret ..).symm

/-- The blocks in the order they are written. -/
theorem all_blks (c : Dev nD) (b : Blk) : b ∈ ([(0 : Fin 4), 1, 2, 3].reverse.flatMap fun r =>
    ([(2 : Fin 3), 1, 0].flatMap fun j => [(peer c j.rev, (1 : Fin 2), r), (peer c j.rev, 0, r)]) ++ [(c, 1, r), (c, 0, r)]) := by
  revert b c
  decide

end Cert.Exchange
-- ==== Proof.Deal.lean ====
/-
What the launch deals to each device.
-/
module

public import Idealize.ShloMosaic.Lib.Pipeline.Regions
public import Idealize.ShloMosaic.Lib.Pipeline.RegionTalk
public import Idealize.ShloMosaic.Lib.Pipeline.Kit
public import Idealize.ShloMosaic.Harness.Basic
public import proofs.«01_k».proof.Proof.Finish

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (c : Dev nD)

/-! ## The kernel's own semaphores -/

abbrev Own : Type := Fin 2 ⊕ (Fin 2 × Hop)
/-- The two local copies' semaphores and the hops' send and receive semaphores. -/
abbrev osem : Own → SemLoc sig
  | .inl i => .dma ⟨4 + i.val, Nat.lt_of_lt_of_le (Nat.add_lt_add_left i.isLt 4) (by decide)⟩
  | .inr x => .dma (hopS x.1 x.2)

theorem own_facts : Pipeline.OwnSemFacts spec0 osem := by decide +kernel

theorem ownSems0_eq : (Pipeline.ownSems0 osem c : sProp 𝕄)
    = iprop((semVal ((c : Thread nD τ), .dma 4) 0 ∗ semVal ((c : Thread nD τ), .dma 5) 0)
      ∗ bigSep Finset.univ fun x : Fin 2 × Hop => semVal (cellH x.1 c x.2) 0) := by
  show (bigSep Finset.univ fun k : Own => (semVal ((c : Thread nD τ), osem k) 0 : sProp 𝕄)) = _
  rw [bigSep_univ_sum, bigSep_fin_two]
  rfl

/-! ## Cells and tokens -/

abbrev DH : Type := (Fin 2 × Dev nD) × Hop
def barEmb : Dev nD ↪ GSem nD τ sig := ⟨fun c => barCell c, fun _ _ h => congrArg (fun g : GSem nD τ sig => g.1.1) h⟩
theorem hopS_inj : Function.Injective (fun x : Fin 2 × Hop => hopS x.1 x.2) := fun x y h => by
  have h' := congrArg decS h
  rwa [decS_hopS, decS_hopS] at h'
theorem cellH_inj : Function.Injective (fun x : DH => cellH x.1.1 x.1.2 x.2) := fun x y h => by
  have h1 : x.1.2 = y.1.2 := congrArg (fun g : GSem nD τ sig => g.1.1) h
  have h2 := @hopS_inj (x.1.1, x.2) (y.1.1, y.2) (SemLoc.dma.inj (congrArg Prod.snd h))
  exact Prod.ext (Prod.ext (Prod.mk.inj h2).1 h1) (Prod.mk.inj h2).2
def hopEmb : DH ↪ GSem nD τ sig := ⟨fun x => cellH x.1.1 x.1.2 x.2, cellH_inj⟩

abbrev barCells : Finset (GSem nD τ sig) := Finset.univ.map barEmb
abbrev hopCells : Finset (GSem nD τ sig) := Finset.univ.map hopEmb

theorem disjoint_cells : Disjoint (barCells : Finset (GSem nD τ sig)) hopCells := by
  rw [Finset.disjoint_left]
  rintro g h₁ h₂
  obtain ⟨c, -, rfl⟩ := Finset.mem_map.mp h₁
  obtain ⟨ck, -, h⟩ := Finset.mem_map.mp h₂
  exact absurd (congrArg Prod.snd h) (by intro h; cases h)

def tokOf : (Dev nD × Fin 3) ⊕ DH → GSem nD τ sig × ℕ × Duty
  | .inl x => (barCell x.1, 0, x.2)
  | .inr x => (cellH x.1.1 x.1.2 x.2, 0, 0)
theorem tokOf_inj : Function.Injective tokOf := by
  rintro (x | x) (y | y) h
  · exact congrArg Sum.inl (Prod.ext (congrArg (fun t : GSem nD τ sig × ℕ × Duty => t.1.1.1) h)
      (congrArg (fun t : GSem nD τ sig × ℕ × Duty => t.2.2) h))
  · exact absurd (congrArg (fun t : GSem nD τ sig × ℕ × Duty => t.1.2) h) (by intro h; cases h)
  · exact absurd (congrArg (fun t : GSem nD τ sig × ℕ × Duty => t.1.2) h) (by intro h; cases h)
  · exact congrArg Sum.inr (cellH_inj (congrArg Prod.fst h))
def toks : Finset (GSem nD τ sig × ℕ × Duty) := Finset.univ.map ⟨tokOf, tokOf_inj⟩

/-- Pairs of a device and a peer, seen from the peer. -/
def turn : Dev nD × Fin 3 ≃ Dev nD × Fin 3 where
  toFun x := (peer x.1 x.2, x.2.rev)
  invFun x := (peer x.1 x.2, x.2.rev)
  left_inv x := Prod.ext (peer_rev x.1 x.2) (Fin.rev_rev x.2)
  right_inv x := Prod.ext (peer_rev x.1 x.2) (Fin.rev_rev x.2)
/-- A hop's receiver. -/
def send : Dev nD × Hop ≃ Dev nD × Hop where
  toFun x := (peer x.1 x.2.2.2, x.2)
  invFun x := (peer x.1 x.2.2.2.rev, x.2)
  left_inv x := Prod.ext (peer_rev x.1 x.2.2.2) rfl
  right_inv x := Prod.ext (peer_rev' x.1 x.2.2.2) rfl

/-- The tokens a device pays with. -/
def payToks : sProp 𝕄 :=
  iprop((bigSep Finset.univ fun j : Fin 3 => dutyTok ER (barCell (peer c j)) 0 j.rev)
    ∗ bigSep Finset.univ fun h : Hop => iprop(dutyTok ER (sendC c h) 0 (0 : Duty) ∗ dutyTok ER (recvC (peer c h.2.2) h) 0 (0 : Duty)))

theorem toks_eq : (bigSep toks (fun x => (dutyTok ER x.1 x.2.1 x.2.2 : sProp 𝕄))) = bigSep Finset.univ fun c : Dev nD => payToks (F := F) c := by
  unfold toks payToks
  rw [bigSep_map, bigSep_univ_sum, bigSep_sep']
  refine congrArg₂ BI.sep ?_ ?_
  · refine (bigSep_univ_equiv turn _).trans ?_
    rw [bigSep_univ_prod]
    rfl
  · rw [bigSep_univ_prod, bigSep_univ_prod, bigSep_fin_two]
    have e : (bigSep Finset.univ fun a : Dev nD => bigSep Finset.univ fun b : Hop => (dutyTok ER (recvC a b) 0 (0 : Duty) : sProp 𝕄))
        = bigSep Finset.univ fun a : Dev nD => bigSep Finset.univ fun b : Hop => (dutyTok ER (recvC (peer a b.2.2) b) 0 (0 : Duty) : sProp 𝕄) :=
      ((bigSep_univ_prod (fun x : Dev nD × Hop => (dutyTok ER (recvC x.1 x.2) 0 (0 : Duty) : sProp 𝕄))).symm.trans
        (bigSep_univ_equiv send _)).trans (bigSep_univ_prod _)
    refine (congrArg (BI.sep _) e).trans ?_
    refine (bigSep_sep' _ _ _).symm.trans ?_
    exact bigSep_congr fun a _ => by rw [bigSep_sep']; rfl

/-! ## What is dealt -/

def records (κ : GSem nD τ sig → ℕ) : sProp 𝕄 := iprop(invs D κ ∗ bigSep Finset.univ fun c : Dev nD => reached ER (barCell c) 0)
instance records_persistent (κ : GSem nD τ sig → ℕ) : BI.Persistent (records D κ) := by unfold records; infer_instance

def openToks : sProp 𝕄 := bigSep Finset.univ fun x : Fin 2 × Hop => openTok ER (cellH x.1 c x.2)

/-- The credit of what a device will receive. -/
def credsIn : sProp 𝕄 :=
  iprop(cred (tallyAt (barCell c) () 3) ∗ bigSep Finset.univ fun h : Hop => cred (tallyAt (recvC c h) () N))

/-- What a device carries to the kernel. -/
def Tk : sProp 𝕄 :=
  iprop((∃ κ, records D κ) ∗ atPos ER (barCell c) 0 (∅ : Finset Duty) 0 ∗ openToks (F := F) c ∗ payToks (F := F) c ∗ credsIn (F := F) c)

def barTok (j : Fin 3) : sProp 𝕄 := iprop(dutyTok ER (barCell (peer c j)) 0 j.rev ∗ reached ER (barCell (peer c j)) 0)

/-- With the cells open. -/
def Xk : sProp 𝕄 :=
  iprop((∃ K, env D K) ∗ (bigSep Finset.univ (barTok (F := F) c)) ∗ (bigSep Finset.univ (hopKeep (F := F) c))
    ∗ (bigSep Finset.univ fun h : Hop => reached ER (recvC c h) 0)
    ∗ atPos ER (barCell c) 0 (∅ : Finset Duty) 0 ∗ cred (tallyAt (barCell c) () 3)
    ∗ semVal ((c : Thread nD τ), .dma 4) 0 ∗ semVal ((c : Thread nD τ), .dma 5) 0)

/-- One cell opened. -/
theorem open_one (κ : GSem nD τ sig → ℕ) (x : Fin 2 × Hop) :
    iprop(invs D κ ∗ (openTok ER (cellH x.1 c x.2) ∗ semVal (cellH x.1 c x.2) 0))
      ⊢ iprop(|={Set.univ}=> (atPos ER (cellH x.1 c x.2) 0 (∅ : Finset Duty) 0 ∗ reached ER (cellH x.1 c x.2) 0)) := by
  iintro ⟨#HI, Ho, Hs⟩
  ihave #Hc := (invs_hop D κ x.1 c x.2) $$ HI
  iapply (Rounds.cell_open ER (rd D) (g := cellH x.1 c x.2) (Set.mem_univ (κ (cellH x.1 c x.2))))
  isplitr; · iexact Hc
  isplitl [Ho] <;> iassumption

/-- One cell closed. -/
theorem close_one (κ : GSem nD τ sig → ℕ) (x : Fin 2 × Hop) :
    iprop(invs D κ ∗ atPos ER (cellH x.1 c x.2) 1 (∅ : Finset Duty) 0) ⊢ iprop(|={Set.univ}=> semVal (cellH x.1 c x.2) 0) := by
  iintro ⟨#HI, Ho⟩
  ihave #Hc := (invs_hop D κ x.1 c x.2) $$ HI
  iapply (Rounds.cell_close ER (rd D) (g := cellH x.1 c x.2) (R := 1) (Set.mem_univ (κ (cellH x.1 c x.2))) id (duties_later D _))
  isplitr; · iexact Hc
  iexact Ho
theorem close_bar (κ : GSem nD τ sig → ℕ) :
    iprop(invs D κ ∗ atPos ER (barCell c) 1 (∅ : Finset Duty) 0) ⊢ iprop(|={Set.univ}=> semVal (barCell c) 0) := by
  iintro ⟨#HI, Ho⟩
  ihave #Hc := (invs_bar D κ c) $$ HI
  iapply (Rounds.cell_close ER (rd D) (g := barCell c) (R := 1) (Set.mem_univ (κ (barCell c))) id (duties_later D _))
  isplitr; · iexact Hc
  iexact Ho

theorem close_hops (κ : GSem nD τ sig → ℕ) :
    iprop(invs D κ ∗ bigSep Finset.univ (hopDone (F := F) c))
      ⊢ iprop(|={Set.univ}=> bigSep Finset.univ fun x : Fin 2 × Hop => (semVal (cellH x.1 c x.2) 0 : sProp 𝕄)) := by
  have e : bigSep Finset.univ (hopDone (F := F) c)
      = bigSep Finset.univ fun x : Fin 2 × Hop => (atPos ER (cellH x.1 c x.2) 1 (∅ : Finset Duty) 0 : sProp 𝕄) := by
    unfold hopDone
    rw [bigSep_univ_prod (fun x : Fin 2 × Hop => _), bigSep_fin_two, bigSep_sep']
    rfl
  rw [e]
  exact (bigSep_with_persistent (R := invs D κ) fun x _ => close_one D c κ x).trans (bigSep_fupd _ _)

theorem hopen : iprop(Tk D c ∗ Pipeline.ownSems0 osem c ∗ levAts L lv) ⊢ iprop(|={Set.univ}=> Xk D c) := by
  rw [ownSems0_eq]
  unfold Tk openToks records
  iintro ⟨⟨⟨%κ, #HI, #HR⟩, Hat, Hot, Htok, Hcr⟩, ⟨⟨H4, H5⟩, Hs⟩, #Hlev⟩
  have hop := (bigSep_with_persistent (S := Finset.univ) (R := invs D κ) fun x _ => open_one D c κ x).trans (bigSep_fupd Finset.univ _)
  imod hop $$ [Hot Hs] with Hopen
  · isplitr; · iexact HI
    iapply Smoke.bigSep_pair
    isplitl [Hot] <;> iassumption
  have e : (bigSep Finset.univ fun x : Fin 2 × Hop =>
        (iprop(atPos ER (cellH x.1 c x.2) 0 (∅ : Finset Duty) 0 ∗ reached ER (cellH x.1 c x.2) 0) : sProp 𝕄))
      ⊢ iprop((bigSep Finset.univ fun h : Hop => (iprop(atPos ER (sendC c h) 0 (∅ : Finset Duty) 0 ∗ reached ER (sendC c h) 0) : sProp 𝕄))
        ∗ (bigSep Finset.univ fun h : Hop => (atPos ER (recvC c h) 0 (∅ : Finset Duty) 0 : sProp 𝕄))
        ∗ bigSep Finset.univ fun h : Hop => (reached ER (recvC c h) 0 : sProp 𝕄)) := by
    rw [bigSep_univ_prod, bigSep_fin_two, ← bigSep_sep']
    exact .rfl
  ihave Hopen := e $$ Hopen
  icases Hopen with ⟨HS, HV, #HVr⟩
  unfold payToks credsIn
  icases Htok with ⟨HtB, HtH⟩
  icases Hcr with ⟨HcB, HcH⟩
  imodintro
  unfold Xk
  isplitr
  · iexists κ
    unfold env
    isplitr; · iexact HI
    iexact Hlev
  isplitl [HtB]
  · iapply (bigSep_with_persistent (S := Finset.univ) (R := bigSep Finset.univ fun c : Dev nD => (reached ER (barCell c) 0 : sProp 𝕄))
      (Φ := fun j : Fin 3 => (dutyTok ER (barCell (peer c j)) 0 j.rev : sProp 𝕄)) (Ψ := barTok (F := F) c) fun j _ => by
        show iprop((bigSep Finset.univ fun c : Dev nD => (reached ER (barCell c) 0 : sProp 𝕄)) ∗ dutyTok ER (barCell (peer c j)) 0 j.rev) ⊢ barTok (F := F) c j
        unfold barTok
        iintro ⟨#H, Ht⟩
        isplitl [Ht]; · iexact Ht
        have hr : (bigSep Finset.univ fun c : Dev nD => (reached ER (barCell c) 0 : sProp 𝕄)) ⊢ reached ER (barCell (peer c j)) 0 :=
          bigSep_elim (Finset.mem_univ (peer c j))
        iapply hr
        iexact H)
    isplitr; · iexact HR
    iexact HtB
  isplitl [HS HV HtH HcH]
  · have e2 : iprop((bigSep Finset.univ fun h : Hop => (iprop(atPos ER (sendC c h) 0 (∅ : Finset Duty) 0 ∗ reached ER (sendC c h) 0) : sProp 𝕄))
        ∗ (bigSep Finset.univ fun h : Hop => (atPos ER (recvC c h) 0 (∅ : Finset Duty) 0 : sProp 𝕄))
        ∗ (bigSep Finset.univ fun h : Hop => iprop(dutyTok ER (sendC c h) 0 (0 : Duty) ∗ dutyTok ER (recvC (peer c h.2.2) h) 0 (0 : Duty)))
        ∗ bigSep Finset.univ fun h : Hop => cred (tallyAt (recvC c h) () N)) ⊢ bigSep Finset.univ (hopKeep (F := F) c) := by
      rw [← bigSep_sep', ← bigSep_sep', ← bigSep_sep']
      refine bigSep_mono fun h _ => ?_
      show iprop((atPos ER (sendC c h) 0 (∅ : Finset Duty) 0 ∗ reached ER (sendC c h) 0) ∗ atPos ER (recvC c h) 0 (∅ : Finset Duty) 0
        ∗ (dutyTok ER (sendC c h) 0 (0 : Duty) ∗ dutyTok ER (recvC (peer c h.2.2) h) 0 (0 : Duty)) ∗ cred (tallyAt (recvC c h) () N)) ⊢ hopKeep (F := F) c h
      unfold hopKeep hopTok hopPos
      iintro ⟨⟨H1, H2⟩, H3, ⟨H4, H5⟩, H6⟩
      isplitl [H4 H2 H5]
      · isplitl [H4]; · iexact H4
        isplitl [H2] <;> iassumption
      isplitl [H1]; · iexact H1
      isplitl [H3] <;> iassumption
    iapply e2
    isplitl [HS]; · iexact HS
    isplitl [HV]; · iexact HV
    isplitl [HtH] <;> iassumption
  isplitr; · iexact HVr
  isplitl [Hat]; · iexact Hat
  isplitl [HcB]; · iexact HcB
  isplitl [H4] <;> iassumption

/-! ## The launch credit -/

abbrev O₀ (c : Dev nD) : CellTallies nD τ sig Unit := owedL c pays

theorem owedL_apply (d : Dev nD) (l : List Pay) (g : GSem nD τ sig) :
    owedL d l g () = (l.map fun x => if x.cell d = g then x.amt else 0).sum := by
  induction l with
  | nil => rfl
  | cons x l ih =>
    show (owedL d l + tallyAt (x.cell d) () x.amt) g () = _
    rw [Pi.add_apply, Finsupp.add_apply, ih, List.map_cons, List.sum_cons, add_comm, tallyAt_apply]
    congr 1
    by_cases h : g = x.cell d
    · rw [if_pos ⟨h, rfl⟩, if_pos h.symm]
    · rw [if_neg fun k => h k.1, if_neg fun k => h k.symm]

theorem sum_if_N (p : Hop → Prop) [DecidablePred p] (l : List Hop) :
    (l.map fun h => if p h then N else 0).sum = (l.map fun h => if p h then 1 else 0).sum * N := by
  induction l with
  | nil => exact (Nat.zero_mul _).symm
  | cons x l ih =>
    rw [List.map_cons, List.map_cons, List.sum_cons, List.sum_cons, ih, Nat.add_mul]
    congr 1
    split
    · exact (Nat.one_mul _).symm
    · exact (Nat.zero_mul _).symm

theorem cell_inl (d c : Dev nD) (j : Fin 3) : (Pay.cell d (.inl j) = barCell c) ↔ peer d j = c :=
  ⟨fun h => congrArg (fun g : GSem nD τ sig => g.1.1) h, fun h => congrArg barCell h⟩
theorem cell_inr (d c : Dev nD) (h h' : Hop) : (Pay.cell d (.inr h') = recvC c h) ↔ (peer d h'.2.2 = c ∧ h' = h) := by
  refine ⟨fun e => ?_, fun ⟨h1, h2⟩ => by subst h1 h2; rfl⟩
  have e' := @cellH_inj ((1, peer d h'.2.2), h') ((1, c), h) e
  exact ⟨congrArg (fun x : DH => x.1.2) e', congrArg (fun x : DH => x.2) e'⟩

theorem owed_bar (d c : Dev nD) : O₀ d (barCell c) () = ([0, 1, 2].map fun j : Fin 3 => if peer d j = c then 1 else 0).sum := by
  rw [owedL_apply]
  unfold pays
  rw [List.map_append, List.sum_append, List.map_map]
  have z : (hops.map ((fun x : Pay => if x.cell d = barCell c then x.amt else 0) ∘ Sum.inr)).sum = 0 :=
    List.sum_eq_zero fun x hx => by
      obtain ⟨h, -, rfl⟩ := List.mem_map.mp hx
      exact if_neg fun e => absurd (congrArg Prod.snd e) (by intro e; cases e)
  rw [z, Nat.add_zero]
  simp only [List.map_cons, List.map_nil, cell_inl]
  rfl
theorem owed_recv (d c : Dev nD) (h : Hop) :
    O₀ d (recvC c h) () = (hops.map fun h' => if peer d h'.2.2 = c ∧ h' = h then 1 else 0).sum * N := by
  rw [owedL_apply]
  unfold pays
  rw [List.map_append, List.sum_append, List.map_map, ← sum_if_N]
  have z : (([.inl 0, .inl 1, .inl 2] : List Pay).map (fun x : Pay => if x.cell d = recvC c h then x.amt else 0)).sum = 0 := by
    have z' : ∀ j : Fin 3, (if Pay.cell d (.inl j) = recvC c h then Pay.amt (.inl j) else 0) = 0 := fun j =>
      if_neg fun e => absurd (congrArg Prod.snd e) (by intro e; cases e)
    simp only [List.map_cons, List.map_nil, z', List.sum_cons, List.sum_nil, Nat.add_zero]
  rw [z, Nat.zero_add]
  refine congrArg List.sum (List.map_congr_left fun h' _ => ?_)
  show (if Pay.cell d (.inr h') = recvC c h then N else 0) = _
  simp only [cell_inr]

theorem bar_count (c : Dev nD) : ∑ d : Dev nD, ([0, 1, 2].map fun j : Fin 3 => if peer d j = c then 1 else 0).sum = 3 := by
  revert c; decide
theorem recv_count (c : Dev nD) (h : Hop) :
    ∑ d : Dev nD, (hops.map fun h' => if peer d h'.2.2 = c ∧ h' = h then 1 else 0).sum = 1 := by
  revert c h; decide +kernel

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, bar_count]
theorem launch_recv (h : Hop) :
    tallyOn (recvC c h) (launchCredit (Pipeline.owing O₀) 0 (recvC c h)) = (tallyAt (recvC c h) () N : CellTallies nD τ sig Unit) := by
  unfold tallyAt; refine congrArg _ (Finsupp.ext fun u => ?_); cases u
  rw [Pipeline.launchCredit_owing, Finsupp.single_eq_same, Finset.sum_congr rfl fun d _ => owed_recv d c h, ← Finset.sum_mul, recv_count,
    Nat.one_mul]

def recvEmb : Hop ↪ SemLoc sig := ⟨fun h => .dma (hopS 1 h), fun h h' e =>
  congrArg Prod.snd (@hopS_inj (1, h) (1, h') (SemLoc.dma.inj e))⟩

theorem creds : (Pipeline.launchCred O₀ c : sProp 𝕄) ⊢ credsIn (F := F) c := by
  unfold Pipeline.launchCred credsIn
  rw [bigSep_univ_at _ (SemLoc.reg barS), launch_bar]
  refine sep_mono_right ?_
  refine (bigSep_subset (t := Finset.univ.map recvEmb) fun g hg => ?_).trans ?_
  · obtain ⟨h, -, rfl⟩ := Finset.mem_map.mp hg
    exact Finset.mem_erase.mpr ⟨fun e => absurd e (by intro e; cases e), Finset.mem_univ _⟩
  · rw [bigSep_map]
    exact bigSep_mono fun h _ => Entails.of_eq (congrArg cred (launch_recv c h))

end Cert.Exchange
-- ==== Proof.Body.lean ====
/-
One device's run of the kernel.
-/
module

public import proofs.«01_k».proof.Proof.Finish

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- What a device signals its peers with. -/
def barGive (j : Fin 3) : sProp 𝕄 :=
  iprop(dutyTok ER (barCell (peer c j)) 0 (Fin.rev j) ∗ reached ER (barCell (peer c j)) 0 ∗ barPay (F := F) (peer c j) (Fin.rev j))

theorem grp0_val (k' v' : S2048x8x128.Idx → Elt F .f32) (hk : k' = kmOf c (I c).k) (hv : v' = vmOf c (I c).v) :
    grpOf (wqB (I c).wq) (woB (I c).wo) (xg (I c).x 0) (kg k' 0) (vg v' 0) = grp I c 0 := by rw [hk, hv]; rfl

theorem sig_step (D : Data F) (j : Fin 3) (n : ℕ) {α : Type} {dev : Dev nD} {sem : Sem sig} {v : ℤ}
    {kont : PUnit → Prog (TpuEff nD τ sig (Elt F) Λ₀ .tc) α} {Q : α → sProp 𝕄}
    (hdev : dev.val = (c.val + j.val + 1) % 4) (hs : sem = barS := by rfl) (hv : v = ((1 : ℕ) : ℤ) := by rfl)
    (hp : pays.drop n = .inl j :: pays.drop (n + 1) := by rfl) :
    iprop(env D K ∗ barGive (F := F) c j ∗ owing c n)
      ⊢ iprop((owing c (n + 1) -∗ wp frame (wpE defs₀ 𝒱₀ (c : Thread nD τ) none) Set.univ (kont ⟨⟩) Q)
          -∗ wp frame (wpE defs₀ 𝒱₀ (c : Thread nD τ) none) Set.univ (.op (.semSignal (dev, .tc) sem v) kont) Q) := by
  unfold barGive
  iintro ⟨#He, ⟨H1, H2, H3⟩, HO⟩
  iapply (signal_step D K c j n (Fin.ext hdev) hs hv hp)
  isplitr; · iexact He
  isplitl [H1]; · iexact H1
  isplitl [H2]; · iexact H2
  isplitl [H3]; · iexact H3
  iexact HO

set_option maxHeartbeats 40000000 in
theorem body_run (D : Data F) (hD : D = dataOf (gOf I)) (fout : S2048x1024.Idx → Elt F .f32)
   (f6 f7 : S2048x8x128.Idx → Elt F .f32) (f8 : S4x512x1024.Idx → Elt F .bf16) (Q : PUnit → sProp 𝕄) :
   iprop(env D K ∗ pt c cc0_stg0_0 (I c).x ∗ pt c cc0_stg1_0 (I c).wq
     ∗ pt c cc0_stg2_0 (I c).wo ∗ pt c main_arg2 (I c).k
     ∗ pt c main_arg3 (I c).v ∗ pt c cc0_stg3_0 fout
     ∗ pt c cc0_scratch0 f6 ∗ pt c cc0_scratch1 f7
     ∗ pt c cc0_scratch2 f8
     ∗ semVal ((c : Thread nD τ), .dma 4) 0 ∗ semVal ((c : Thread nD τ), .dma 5) 0 ∗ owing c 0
     ∗ barGive (F := F) c 0 ∗ barGive (F := F) c 1 ∗ barGive (F := F) c 2
     ∗ atPos ER (barCell c) 0 (∅ : Finset Duty) 0 ∗ cred (tallyAt (barCell c) () 3)
     ∗ bigSep Finset.univ (hopKeep (F := F) c)
     ∗ (bodyPost D I c -∗ |={Set.univ}=> Q ⟨⟩))
   ⊢ wp frame (wpE defs₀ 𝒱₀ (c : Thread nD τ) none) Set.univ prog Q := by
  have hm4 := env_mayWait D K c 0 (.dma 4) (by decide)
  have hm5 := env_mayWait D K c 0 (.dma 5) (by decide)
  iintro ⟨#He, Hx, Hq, Ho, Hk, Hv, Hout, H6, H7, H8, Hs4, Hs5, HO, Hb0, Hb1, Hb2, Hbp, Hbc, Hkeep, Hpost⟩
  ihave #Hm4 := hm4 $$ He
  ihave #Hm5 := hm5 $$ He
  ihave H8 := (Entails.of_eq ((buf_grps f8 c).trans (bigSep4 _))) $$ H8
  icases H8 with ⟨Hg0, Hg1, Hg2, Hg3⟩
  unfold owing
  icases HO with ⟨%W, HO⟩
  sl_exec_parts
  ihave HO : (owing (F := F) c 0) $$ [HO]
  · unfold owing; iexists _; iexact HO
  iapply (sig_step K c D 0 0 (k0_dev1_eq c)) $$ [$He $Hb0 $HO]; iintro HO; sl_exec_parts
  iapply (sig_step K c D 1 1 (k0_dev2_eq c)) $$ [$He $Hb1 $HO]; iintro HO; sl_exec_parts
  iapply (sig_step K c D 2 2 (k0_dev3_eq c)) $$ [$He $Hb2 $HO]; iintro HO; sl_exec_parts
  iapply (barrier_step D K c 3 rfl rfl (by decide)) $$ [$He $Hbp $Hbc $HO]; iintro ⟨Hbp, Hbar, HO⟩
  ihave HT := (trs_ready D c) $$ [Hkeep Hbar]
  · isplitl [Hkeep]; · iexact Hkeep
    iexact Hbar
  ihave HT := (Entails.of_eq (Trs_eq D c .ready)) $$ HT
  icases HT with ⟨⟨HR0, HR1, HR2, HR3⟩, HA0, HA1, HA2, HA3⟩
  have hA : ∀ (r : Fin 4) (t : Fin 128) (n : Fin 1024),
      D.A c (ix3 r ⟨128 * c.val + t.val, chunk_lt c t⟩ n) = accB D c r (ix3 0 t n) := by rw [hD]; exact A_at (gOf I) c
  have hd := done_nil D c fout
  have hG : gOf I c = D.G c := by rw [hD]; rfl
  have e6 : View.write (Elt F) (Memref.whole cc0_scratch0).view f6 (body_run.sl.dma0 I c) Finset.univ = kmOf c (I c).k :=
    (View.write_whole_univ _ _ _).trans rfl
  have e7 : View.write (Elt F) (Memref.whole cc0_scratch1).view f7 (body_run.sl.dma0_1 I c) Finset.univ = vmOf c (I c).v :=
    (View.write_whole_univ _ _ _).trans rfl
  ihave Hg0 := (grp_stored c 0 f8 _ ![0, 0, 0] _ rfl) $$ Hg0
  icases Hg0 with ⟨%w0, %hw0, Hg0⟩
  have hw0 := hw0.trans (grp0_val I c _ _ e6 e7)
  subst hw0
  ihave Hg0 := (Entails.of_eq ((grp_fill I c 0).trans (congrArg (fun g => rectPt (grpRect 0) fullShare g c) hG))) $$ Hg0
  ihave H6 := (Entails.of_eq (congrArg (fun g => (pt c cc0_scratch0 g : sProp 𝕄)) e6)) $$ H6
  ihave H7 := (Entails.of_eq (congrArg (fun g => (pt c cc0_scratch1 g : sProp 𝕄)) e7)) $$ H7
  ihave HG := (arm0 D c 0) $$ [$HR0 $Hg0]
  icases HG with ⟨HR0, Hc0⟩
  sl_exec_parts
  iapply (tr_copy D K c 0 0 0 3 (k0_dev4_eq c) (k0_off2_eq c 0)) $$ [$He $HR0 $HO]; iintro ⟨HR0, HO⟩; sl_exec_parts
  iapply (tr_copy D K c 0 0 1 4 (k0_dev5_eq c) (k0_off2_eq c 1)) $$ [$He $HR0 $HO]; iintro ⟨HR0, HO⟩; sl_exec_parts
  iapply (tr_copy D K c 0 0 2 5 (k0_dev6_eq c) (k0_off2_eq c 2)) $$ [$He $HR0 $HO]; iintro ⟨HR0, HO⟩; sl_exec_parts
  ihave Hg1 := (grp_stored c 1 f8 _ ![1, 0, 0] _ rfl) $$ Hg1
  icases Hg1 with ⟨%w1, %hw1, Hg1⟩
  have hw1 : w1 = grp I c 1 := hw1
  subst hw1
  ihave Hg1 := (Entails.of_eq ((grp_fill I c 1).trans (congrArg (fun g => rectPt (grpRect 1) fullShare g c) hG))) $$ Hg1
  ihave HG := (arm0 D c 1) $$ [$HR1 $Hg1]
  icases HG with ⟨HR1, Hc1⟩
  iapply (tr_back D K c 0 0 0 6) $$ [$He $HR0 $HO]; iintro ⟨HR0, HO⟩; sl_exec_parts
  iapply (tr_land D K c 0 0 0 6) $$ [$He $HR0 $HO]; iintro ⟨HR0, HS00, HO⟩; sl_exec_parts
  iapply (tr_back D K c 0 0 1 6) $$ [$He $HR0 $HO]; iintro ⟨HR0, HO⟩; sl_exec_parts
  iapply (tr_land D K c 0 0 1 6) $$ [$He $HR0 $HO]; iintro ⟨HR0, HS01, HO⟩; sl_exec_parts
  iapply (tr_back D K c 0 0 2 6) $$ [$He $HR0 $HO]; iintro ⟨HR0, HO⟩; sl_exec_parts
  iapply (tr_land D K c 0 0 2 6) $$ [$He $HR0 $HO]; iintro ⟨HR0, HS02, HO⟩
  unfold slotLd
  sl_exec_parts
  ihave Hout := (any_ct _) $$ Hout
  icases Hout with ⟨%o0, %ho0, Hout⟩
  have hd := done_own D c 0 hd (k0_off3_inb c) (k0_off3_eq c) (hb := k0_off4_inb c 0) (hb' := k0_off5_inb c 0) ho0 (k0_off4_eq c 0)
    (k0_off5_eq c 0) rfl rfl
  ihave Hc0 := (any_ct _) $$ Hc0
  icases Hc0 with ⟨%a0, %ha0, Hc0⟩
  ihave Hc0 := (Entails.of_eq (acc_stored D c hA 0 _ (k0_off3_inb c) (k0_off3_eq c) _ ha0 rfl)) $$ Hc0
  ihave HA0 := (arm1 D c 0) $$ [$HA0 $Hc0]
  iapply (tr_copy D K c 1 0 0 6 (k0_dev7_eq c) (k0_off6_eq c)) $$ [$He $HA0 $HO]; iintro ⟨HA0, HO⟩; sl_exec_parts
  iapply (tr_copy D K c 1 0 1 7 (k0_dev8_eq c) (k0_off6_eq c)) $$ [$He $HA0 $HO]; iintro ⟨HA0, HO⟩; sl_exec_parts
  iapply (tr_copy D K c 1 0 2 8 (k0_dev9_eq c) (k0_off6_eq c)) $$ [$He $HA0 $HO]; iintro ⟨HA0, HO⟩; sl_exec_parts
  iapply (tr_copy D K c 0 1 0 9 (k0_dev10_eq c) (k0_off7_eq c 0)) $$ [$He $HR1 $HO]; iintro ⟨HR1, HO⟩; sl_exec_parts
  iapply (tr_copy D K c 0 1 1 10 (k0_dev11_eq c) (k0_off7_eq c 1)) $$ [$He $HR1 $HO]; iintro ⟨HR1, HO⟩; sl_exec_parts
  iapply (tr_copy D K c 0 1 2 11 (k0_dev12_eq c) (k0_off7_eq c 2)) $$ [$He $HR1 $HO]; iintro ⟨HR1, HO⟩; sl_exec_parts
  ihave Hg2 := (grp_stored c 2 f8 _ ![2, 0, 0] _ rfl) $$ Hg2
  icases Hg2 with ⟨%w2, %hw2, Hg2⟩
  have hw2 : w2 = grp I c 2 := hw2
  subst hw2
  ihave Hg2 := (Entails.of_eq ((grp_fill I c 2).trans (congrArg (fun g => rectPt (grpRect 2) fullShare g c) hG))) $$ Hg2
  ihave HG := (arm0 D c 2) $$ [$HR2 $Hg2]
  icases HG with ⟨HR2, Hc2⟩
  iapply (tr_back D K c 1 0 0 12) $$ [$He $HA0 $HO]; iintro ⟨HA0, HO⟩; sl_exec_parts
  iapply (tr_land D K c 1 0 0 12) $$ [$He $HA0 $HO]; iintro ⟨HA0, HT00, HO⟩; unfold slotLd; sl_exec_parts
  ihave Hout := (any_ct _) $$ Hout
  icases Hout with ⟨%p00, %hp00, Hout⟩
  have hd := done_peer D c 0 0 hd (hb := k0_off8_inb c 0 0) (hb' := k0_off9_inb c 0 0) hp00 (k0_off8_eq c 0 0)
    (k0_off9_eq c 0 0) rfl rfl
  iapply (tr_back D K c 1 0 1 12) $$ [$He $HA0 $HO]; iintro ⟨HA0, HO⟩; sl_exec_parts
  iapply (tr_land D K c 1 0 1 12) $$ [$He $HA0 $HO]; iintro ⟨HA0, HT01, HO⟩; unfold slotLd; sl_exec_parts
  ihave Hout := (any_ct _) $$ Hout
  icases Hout with ⟨%p01, %hp01, Hout⟩
  have hd := done_peer D c 0 1 hd (hb := k0_off8_inb c 1 0) (hb' := k0_off9_inb c 1 0) hp01 (k0_off8_eq c 1 0)
    (k0_off9_eq c 1 0) rfl rfl
  iapply (tr_back D K c 1 0 2 12) $$ [$He $HA0 $HO]; iintro ⟨HA0, HO⟩; sl_exec_parts
  iapply (tr_land D K c 1 0 2 12) $$ [$He $HA0 $HO]; iintro ⟨HA0, HT02, HO⟩; unfold slotLd; sl_exec_parts
  ihave Hout := (any_ct _) $$ Hout
  icases Hout with ⟨%p02, %hp02, Hout⟩
  have hd := done_peer D c 0 2 hd (hb := k0_off8_inb c 2 0) (hb' := k0_off9_inb c 2 0) hp02 (k0_off8_eq c 2 0)
    (k0_off9_eq c 2 0) rfl rfl
  iapply (tr_back D K c 0 1 0 12) $$ [$He $HR1 $HO]; iintro ⟨HR1, HO⟩; sl_exec_parts
  iapply (tr_land D K c 0 1 0 12) $$ [$He $HR1 $HO]; iintro ⟨HR1, HS10, HO⟩; sl_exec_parts
  iapply (tr_back D K c 0 1 1 12) $$ [$He $HR1 $HO]; iintro ⟨HR1, HO⟩; sl_exec_parts
  iapply (tr_land D K c 0 1 1 12) $$ [$He $HR1 $HO]; iintro ⟨HR1, HS11, HO⟩; sl_exec_parts
  iapply (tr_back D K c 0 1 2 12) $$ [$He $HR1 $HO]; iintro ⟨HR1, HO⟩; sl_exec_parts
  iapply (tr_land D K c 0 1 2 12) $$ [$He $HR1 $HO]; iintro ⟨HR1, HS12, HO⟩; unfold slotLd; sl_exec_parts
  ihave Hout := (any_ct _) $$ Hout
  icases Hout with ⟨%o1, %ho1, Hout⟩
  have hd := done_own D c 1 hd (k0_off10_inb c) (k0_off10_eq c) (hb := k0_off4_inb c 1) (hb' := k0_off5_inb c 1) ho1 (k0_off4_eq c 1)
    (k0_off5_eq c 1) rfl rfl
  ihave Hc1 := (any_ct _) $$ Hc1
  icases Hc1 with ⟨%a1, %ha1, Hc1⟩
  ihave Hc1 := (Entails.of_eq (acc_stored D c hA 1 _ (k0_off10_inb c) (k0_off10_eq c) _ ha1 rfl)) $$ Hc1
  ihave HA1 := (arm1 D c 1) $$ [$HA1 $Hc1]
  iapply (tr_copy D K c 1 1 0 12 (k0_dev13_eq c) (k0_off11_eq c)) $$ [$He $HA1 $HO]; iintro ⟨HA1, HO⟩; sl_exec_parts
  iapply (tr_copy D K c 1 1 1 13 (k0_dev14_eq c) (k0_off11_eq c)) $$ [$He $HA1 $HO]; iintro ⟨HA1, HO⟩; sl_exec_parts
  iapply (tr_copy D K c 1 1 2 14 (k0_dev15_eq c) (k0_off11_eq c)) $$ [$He $HA1 $HO]; iintro ⟨HA1, HO⟩; sl_exec_parts
  iapply (tr_copy D K c 0 2 0 15 (k0_dev16_eq c) (k0_off12_eq c 0)) $$ [$He $HR2 $HO]; iintro ⟨HR2, HO⟩; sl_exec_parts
  iapply (tr_copy D K c 0 2 1 16 (k0_dev17_eq c) (k0_off12_eq c 1)) $$ [$He $HR2 $HO]; iintro ⟨HR2, HO⟩; sl_exec_parts
  iapply (tr_copy D K c 0 2 2 17 (k0_dev18_eq c) (k0_off12_eq c 2)) $$ [$He $HR2 $HO]; iintro ⟨HR2, HO⟩; sl_exec_parts
  ihave Hg3 := (grp_stored c 3 f8 _ ![3, 0, 0] _ rfl) $$ Hg3
  icases Hg3 with ⟨%w3, %hw3, Hg3⟩
  have hw3 : w3 = grp I c 3 := hw3
  subst hw3
  ihave Hg3 := (Entails.of_eq ((grp_fill I c 3).trans (congrArg (fun g => rectPt (grpRect 3) fullShare g c) hG))) $$ Hg3
  ihave HG := (arm0 D c 3) $$ [$HR3 $Hg3]
  icases HG with ⟨HR3, Hc3⟩
  iapply (tr_back D K c 1 1 0 18) $$ [$He $HA1 $HO]; iintro ⟨HA1, HO⟩; sl_exec_parts
  iapply (tr_land D K c 1 1 0 18) $$ [$He $HA1 $HO]; iintro ⟨HA1, HT10, HO⟩; unfold slotLd; sl_exec_parts
  ihave Hout := (any_ct _) $$ Hout
  icases Hout with ⟨%p10, %hp10, Hout⟩
  have hd := done_peer D c 1 0 hd (hb := k0_off8_inb c 0 1) (hb' := k0_off9_inb c 0 1) hp10 (k0_off8_eq c 0 1)
    (k0_off9_eq c 0 1) rfl rfl
  iapply (tr_back D K c 1 1 1 18) $$ [$He $HA1 $HO]; iintro ⟨HA1, HO⟩; sl_exec_parts
  iapply (tr_land D K c 1 1 1 18) $$ [$He $HA1 $HO]; iintro ⟨HA1, HT11, HO⟩; unfold slotLd; sl_exec_parts
  ihave Hout := (any_ct _) $$ Hout
  icases Hout with ⟨%p11, %hp11, Hout⟩
  have hd := done_peer D c 1 1 hd (hb := k0_off8_inb c 1 1) (hb' := k0_off9_inb c 1 1) hp11 (k0_off8_eq c 1 1)
    (k0_off9_eq c 1 1) rfl rfl
  iapply (tr_back D K c 1 1 2 18) $$ [$He $HA1 $HO]; iintro ⟨HA1, HO⟩; sl_exec_parts
  iapply (tr_land D K c 1 1 2 18) $$ [$He $HA1 $HO]; iintro ⟨HA1, HT12, HO⟩; unfold slotLd; sl_exec_parts
  ihave Hout := (any_ct _) $$ Hout
  icases Hout with ⟨%p12, %hp12, Hout⟩
  have hd := done_peer D c 1 2 hd (hb := k0_off8_inb c 2 1) (hb' := k0_off9_inb c 2 1) hp12 (k0_off8_eq c 2 1)
    (k0_off9_eq c 2 1) rfl rfl
  iapply (tr_back D K c 0 2 0 18) $$ [$He $HR2 $HO]; iintro ⟨HR2, HO⟩; sl_exec_parts
  iapply (tr_land D K c 0 2 0 18) $$ [$He $HR2 $HO]; iintro ⟨HR2, HS20, HO⟩; sl_exec_parts
  iapply (tr_back D K c 0 2 1 18) $$ [$He $HR2 $HO]; iintro ⟨HR2, HO⟩; sl_exec_parts
  iapply (tr_land D K c 0 2 1 18) $$ [$He $HR2 $HO]; iintro ⟨HR2, HS21, HO⟩; sl_exec_parts
  iapply (tr_back D K c 0 2 2 18) $$ [$He $HR2 $HO]; iintro ⟨HR2, HO⟩; sl_exec_parts
  iapply (tr_land D K c 0 2 2 18) $$ [$He $HR2 $HO]; iintro ⟨HR2, HS22, HO⟩; unfold slotLd; sl_exec_parts
  ihave Hout := (any_ct _) $$ Hout
  icases Hout with ⟨%o2, %ho2, Hout⟩
  have hd := done_own D c 2 hd (k0_off13_inb c) (k0_off13_eq c) (hb := k0_off4_inb c 2) (hb' := k0_off5_inb c 2) ho2 (k0_off4_eq c 2)
    (k0_off5_eq c 2) rfl rfl
  ihave Hc2 := (any_ct _) $$ Hc2
  icases Hc2 with ⟨%a2, %ha2, Hc2⟩
  ihave Hc2 := (Entails.of_eq (acc_stored D c hA 2 _ (k0_off13_inb c) (k0_off13_eq c) _ ha2 rfl)) $$ Hc2
  ihave HA2 := (arm1 D c 2) $$ [$HA2 $Hc2]
  iapply (tr_copy D K c 1 2 0 18 (k0_dev19_eq c) (k0_off14_eq c)) $$ [$He $HA2 $HO]; iintro ⟨HA2, HO⟩; sl_exec_parts
  iapply (tr_copy D K c 1 2 1 19 (k0_dev20_eq c) (k0_off14_eq c)) $$ [$He $HA2 $HO]; iintro ⟨HA2, HO⟩; sl_exec_parts
  iapply (tr_copy D K c 1 2 2 20 (k0_dev21_eq c) (k0_off14_eq c)) $$ [$He $HA2 $HO]; iintro ⟨HA2, HO⟩; sl_exec_parts
  iapply (tr_copy D K c 0 3 0 21 (k0_dev22_eq c) (k0_off15_eq c 0)) $$ [$He $HR3 $HO]; iintro ⟨HR3, HO⟩; sl_exec_parts
  iapply (tr_copy D K c 0 3 1 22 (k0_dev23_eq c) (k0_off15_eq c 1)) $$ [$He $HR3 $HO]; iintro ⟨HR3, HO⟩; sl_exec_parts
  iapply (tr_copy D K c 0 3 2 23 (k0_dev24_eq c) (k0_off15_eq c 2)) $$ [$He $HR3 $HO]; iintro ⟨HR3, HO⟩; sl_exec_parts
  iapply (tr_back D K c 1 2 0 24) $$ [$He $HA2 $HO]; iintro ⟨HA2, HO⟩; sl_exec_parts
  iapply (tr_land D K c 1 2 0 24) $$ [$He $HA2 $HO]; iintro ⟨HA2, HT20, HO⟩; unfold slotLd; sl_exec_parts
  ihave Hout := (any_ct _) $$ Hout
  icases Hout with ⟨%p20, %hp20, Hout⟩
  have hd := done_peer D c 2 0 hd (hb := k0_off8_inb c 0 2) (hb' := k0_off9_inb c 0 2) hp20 (k0_off8_eq c 0 2)
    (k0_off9_eq c 0 2) rfl rfl
  iapply (tr_back D K c 1 2 1 24) $$ [$He $HA2 $HO]; iintro ⟨HA2, HO⟩; sl_exec_parts
  iapply (tr_land D K c 1 2 1 24) $$ [$He $HA2 $HO]; iintro ⟨HA2, HT21, HO⟩; unfold slotLd; sl_exec_parts
  ihave Hout := (any_ct _) $$ Hout
  icases Hout with ⟨%p21, %hp21, Hout⟩
  have hd := done_peer D c 2 1 hd (hb := k0_off8_inb c 1 2) (hb' := k0_off9_inb c 1 2) hp21 (k0_off8_eq c 1 2)
    (k0_off9_eq c 1 2) rfl rfl
  iapply (tr_back D K c 1 2 2 24) $$ [$He $HA2 $HO]; iintro ⟨HA2, HO⟩; sl_exec_parts
  iapply (tr_land D K c 1 2 2 24) $$ [$He $HA2 $HO]; iintro ⟨HA2, HT22, HO⟩; unfold slotLd; sl_exec_parts
  ihave Hout := (any_ct _) $$ Hout
  icases Hout with ⟨%p22, %hp22, Hout⟩
  have hd := done_peer D c 2 2 hd (hb := k0_off8_inb c 2 2) (hb' := k0_off9_inb c 2 2) hp22 (k0_off8_eq c 2 2)
    (k0_off9_eq c 2 2) rfl rfl
  iapply (tr_back D K c 0 3 0 24) $$ [$He $HR3 $HO]; iintro ⟨HR3, HO⟩; sl_exec_parts
  iapply (tr_land D K c 0 3 0 24) $$ [$He $HR3 $HO]; iintro ⟨HR3, HS30, HO⟩; sl_exec_parts
  iapply (tr_back D K c 0 3 1 24) $$ [$He $HR3 $HO]; iintro ⟨HR3, HO⟩; sl_exec_parts
  iapply (tr_land D K c 0 3 1 24) $$ [$He $HR3 $HO]; iintro ⟨HR3, HS31, HO⟩; sl_exec_parts
  iapply (tr_back D K c 0 3 2 24) $$ [$He $HR3 $HO]; iintro ⟨HR3, HO⟩; sl_exec_parts
  iapply (tr_land D K c 0 3 2 24) $$ [$He $HR3 $HO]; iintro ⟨HR3, HS32, HO⟩; unfold slotLd; sl_exec_parts
  ihave Hout := (any_ct _) $$ Hout
  icases Hout with ⟨%o3, %ho3, Hout⟩
  have hd := done_own D c 3 hd (k0_off16_inb c) (k0_off16_eq c) (hb := k0_off4_inb c 3) (hb' := k0_off5_inb c 3) ho3 (k0_off4_eq c 3)
    (k0_off5_eq c 3) rfl rfl
  ihave Hc3 := (any_ct _) $$ Hc3
  icases Hc3 with ⟨%a3, %ha3, Hc3⟩
  ihave Hc3 := (Entails.of_eq (acc_stored D c hA 3 _ (k0_off16_inb c) (k0_off16_eq c) _ ha3 rfl)) $$ Hc3
  ihave HA3 := (arm1 D c 3) $$ [$HA3 $Hc3]
  iapply (tr_copy D K c 1 3 0 24 (k0_dev25_eq c) (k0_off17_eq c)) $$ [$He $HA3 $HO]; iintro ⟨HA3, HO⟩; sl_exec_parts
  iapply (tr_copy D K c 1 3 1 25 (k0_dev26_eq c) (k0_off17_eq c)) $$ [$He $HA3 $HO]; iintro ⟨HA3, HO⟩; sl_exec_parts
  iapply (tr_copy D K c 1 3 2 26 (k0_dev27_eq c) (k0_off17_eq c)) $$ [$He $HA3 $HO]; iintro ⟨HA3, HO⟩; sl_exec_parts
  iapply (tr_back D K c 1 3 0 27) $$ [$He $HA3 $HO]; iintro ⟨HA3, HO⟩; sl_exec_parts
  iapply (tr_land D K c 1 3 0 27) $$ [$He $HA3 $HO]; iintro ⟨HA3, HT30, HO⟩; unfold slotLd; sl_exec_parts
  ihave Hout := (any_ct _) $$ Hout
  icases Hout with ⟨%p30, %hp30, Hout⟩
  have hd := done_peer D c 3 0 hd (hb := k0_off8_inb c 0 3) (hb' := k0_off9_inb c 0 3) hp30 (k0_off8_eq c 0 3)
    (k0_off9_eq c 0 3) rfl rfl
  iapply (tr_back D K c 1 3 1 27) $$ [$He $HA3 $HO]; iintro ⟨HA3, HO⟩; sl_exec_parts
  iapply (tr_land D K c 1 3 1 27) $$ [$He $HA3 $HO]; iintro ⟨HA3, HT31, HO⟩; unfold slotLd; sl_exec_parts
  ihave Hout := (any_ct _) $$ Hout
  icases Hout with ⟨%p31, %hp31, Hout⟩
  have hd := done_peer D c 3 1 hd (hb := k0_off8_inb c 1 3) (hb' := k0_off9_inb c 1 3) hp31 (k0_off8_eq c 1 3)
    (k0_off9_eq c 1 3) rfl rfl
  iapply (tr_back D K c 1 3 2 27) $$ [$He $HA3 $HO]; iintro ⟨HA3, HO⟩; sl_exec_parts
  iapply (tr_land D K c 1 3 2 27) $$ [$He $HA3 $HO]; iintro ⟨HA3, HT32, HO⟩; unfold slotLd; sl_exec_parts
  ihave Hout := (any_ct _) $$ Hout
  icases Hout with ⟨%p32, %hp32, Hout⟩
  have hd := done_peer D c 3 2 hd (hb := k0_off8_inb c 2 3) (hb' := k0_off9_inb c 2 3) hp32 (k0_off8_eq c 2 3)
    (k0_off9_eq c 2 3) rfl rfl
  have hd := done_all D c hd (all_blks c)
  subst hd
  ihave HS := (slots_join0 D c) $$ [HS00 HS01 HS02 HS10 HS11 HS12 HS20 HS21 HS22 HS30 HS31 HS32]
  · unfold slotRow slotLd
    isplitl [HS00 HS01 HS02]
    · isplitl [HS00]; · iexact HS00
      isplitl [HS01]; · iexact HS01
      iexact HS02
    isplitl [HS10 HS11 HS12]
    · isplitl [HS10]; · iexact HS10
      isplitl [HS11]; · iexact HS11
      iexact HS12
    isplitl [HS20 HS21 HS22]
    · isplitl [HS20]; · iexact HS20
      isplitl [HS21]; · iexact HS21
      iexact HS22
    isplitl [HS30]; · iexact HS30
    isplitl [HS31]; · iexact HS31
    iexact HS32
  ihave HT := (slots_join1 D c) $$ [HT00 HT01 HT02 HT10 HT11 HT12 HT20 HT21 HT22 HT30 HT31 HT32]
  · unfold slotRow slotLd
    isplitl [HT00 HT01 HT02]
    · isplitl [HT00]; · iexact HT00
      isplitl [HT01]; · iexact HT01
      iexact HT02
    isplitl [HT10 HT11 HT12]
    · isplitl [HT10]; · iexact HT10
      isplitl [HT11]; · iexact HT11
      iexact HT12
    isplitl [HT20 HT21 HT22]
    · isplitl [HT20]; · iexact HT20
      isplitl [HT21]; · iexact HT21
      iexact HT22
    isplitl [HT30]; · iexact HT30
    isplitl [HT31]; · iexact HT31
    iexact HT32
  ihave HD := (disarm_all D c) $$ [HR0 HR1 HR2 HR3 HA0 HA1 HA2 HA3]
  · isplitl [HR0 HA0]
    · isplitl [HR0]; · iexact HR0
      iexact HA0
    isplitl [HR1 HA1]
    · isplitl [HR1]; · iexact HR1
      iexact HA1
    isplitl [HR2 HA2]
    · isplitl [HR2]; · iexact HR2
      iexact HA2
    isplitl [HR3]; · iexact HR3
    iexact HA3
  icases HD with ⟨HD, H8⟩
  iapply (ret_intro c Q)
  iapply Hpost
  unfold bodyPost
  isplitl [Hx]; · iexact Hx
  isplitl [Hq]; · iexact Hq
  isplitl [Ho]; · iexact Ho
  isplitl [Hk]; · iexact Hk
  isplitl [Hv]; · iexact Hv
  isplitl [Hout]; · iexact Hout
  isplitl [H6]
  · unfold someOf; iexists _; iexact H6
  isplitl [H7]
  · unfold someOf; iexists _; iexact H7
  isplitl [H8]; · iexact H8
  isplitl [HS]; · iexact HS
  isplitl [HT]; · iexact HT
  isplitl [Hs4]; · iexact Hs4
  isplitl [Hs5]; · iexact Hs5
  isplitl [HO]; · iexact HO
  isplitl [Hbp]; · iexact Hbp
  iexact HD

end Cert.Exchange
-- ==== Proof.Region.lean ====
/-
The program's run: the host reshape, the kernel's region, the host reshape.
-/
module

public import Idealize.ShloMosaic.Lib.Quiescent
public import Idealize.ShloMosaic.Lib.Pipeline.ValueKit
public import proofs.«01_k».proof.Proof.Deal
public import proofs.«01_k».proof.Proof.Body
public import proofs.«01_k».proof.Proof.Gen.KernelIdeal.Launch
public import proofs.«01_k».proof.Proof.Gen.KernelIdeal.Points

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg) (c : Dev nD)

/-! ## What the buffers hold along the program -/

abbrev V₀ (c : Dev nD) : Valuation τ sig (Elt F) := fun b => m (c, b)
/-- After the reshape of the activations. -/
def V₁ (c : Dev nD) : Valuation τ sig (Elt F) := StableHlo.after hostOps0 (V₀ m c)

/-- The devices' inputs, as the region finds them. -/
def inOf (c : Dev nD) : In F where
  x := V₁ m c (Proc.devRef .tc main_v1)
  wq := V₁ m c (Proc.devRef .tc main_arg1)
  wo := V₁ m c (Proc.devRef .tc main_arg4)
  k := V₁ m c (Proc.devRef .tc main_arg2)
  v := V₁ m c (Proc.devRef .tc main_arg3)
def datOf : Data F := dataOf (gOf (inOf m))
/-- What the kernel writes. -/
def outOf (c : Dev nD) : S2048x1024.Idx → Elt F .f32 := OutF (datOf m) c

/-- After the region. -/
def V₂ (c : Dev nD) : Valuation τ sig (Elt F) := Function.update (V₁ m c) (Proc.devRef .tc main_v2) (outOf m c)
/-- At the end. -/
def V₃ (c : Dev nD) : Valuation τ sig (Elt F) := StableHlo.after hostOps1 (V₂ m c)

theorem V₁_ne {b : Ref sig .tc} (h : b ≠ main_v1) : V₁ m c (Proc.devRef .tc b) = m ((c : Thread nD τ).loc b) :=
  StableHlo.reshape_result_ne _ _ _ _ _ _ (V₀ m c) h
theorem V₁_x : V₁ m c (Proc.devRef .tc main_v1) = shapeCast S2048x1024 (m ((c : Thread nD τ).loc main_arg0)) shapeCasts_S1x2048x1024_S2048x1024 := by
  unfold V₁
  rw [StableHlo.after_cons, StableHlo.after_nil, StableHlo.reshape_result]
  rfl
theorem V₂_ne {b : Ref sig .tc} (h : b ≠ main_v2) : V₂ m c (Proc.devRef .tc b) = V₁ m c (Proc.devRef .tc b) :=
  Function.update_of_ne (StableHlo.devRef_ne_of_ne h) ..
theorem V₂_out : V₂ m c (Proc.devRef .tc main_v2) = outOf m c := Function.update_self ..
theorem V₃_ne {b : Ref sig .tc} (h3 : b ≠ main_v3) (h2 : b ≠ main_v2) (h1 : b ≠ main_v1) :
    V₃ m c (Proc.devRef .tc b) = m ((c : Thread nD τ).loc b) :=
  (StableHlo.reshape_result_ne _ _ _ _ _ _ (V₂ m c) h3).trans ((V₂_ne m c h2).trans (V₁_ne m c h1))
theorem V₃_out : V₃ m c (Proc.devRef .tc main_v3) = shapeCast S1x2048x1024 (outOf m c) shapeCasts_S2048x1024_S1x2048x1024 :=
 by
  unfold V₃
  rw [StableHlo.after_cons, StableHlo.after_nil, StableHlo.reshape_result]
  exact (congrArg (fun f => shapeCast S1x2048x1024 f shapeCasts_S2048x1024_S1x2048x1024) (V₂_out m c))

/-! ## The body -/

/-- The scratch buffers, at some contents. -/
def scratch (c : Dev nD) : sProp 𝕄 :=
  iprop(someOf (F := F) c cc0_scratch0 ∗ someOf (F := F) c cc0_scratch1 ∗ someOf (F := F) c cc0_scratch2
    ∗ someOf (F := F) c cc0_scratch3 ∗ someOf (F := F) c cc0_scratch4)
def pair (c : Dev nD) : sProp 𝕄 := iprop(pt c main_arg2 (inOf m c).k ∗ pt c main_arg3 (inOf m c).v)
def prng (c : Dev nD) : sProp 𝕄 := iprop(∃ r, prngReg c r)

def Φ₀ (c : Dev nD) : sProp 𝕄 := iprop(Xk (datOf m) c ∗ pair m c ∗ scratch (F := F) c ∗ prng (F := F) c)
def Φ₁ (c : Dev nD) : sProp 𝕄 :=
  iprop(semVal (barCell c) 0 ∗ Pipeline.ownSems0 osem c ∗ pair m c ∗ scratch (F := F) c ∗ prng (F := F) c)

abbrev adm : (p : Fin 1) → (pcfgs (F := F) p).Adm := fun p => (cfgs p).toPCfg_adm

def pdats (_ : Fin 1) (c : Dev nD) : Dat τ (Elt F) Unit ℕ UU ℕ cfg0 c where
  A w := match w with
    | ⟨0, _⟩ => (inOf m c).x
    | ⟨1, _⟩ => (inOf m c).wq
    | ⟨2, _⟩ => (inOf m c).wo
    | ⟨3, _⟩ => V₁ m c (Proc.devRef .tc main_v2)
  after w _ := match w with
    | ⟨0, _⟩ => (inOf m c).x
    | ⟨1, _⟩ => (inOf m c).wq
    | ⟨2, _⟩ => (inOf m c).wo
    | ⟨3, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stgAt (c : Dev nD) (b : Ref sig .tc) (X : b.ty.Contents (Elt F)) : sProp 𝕄 :=
  iprop(∃ f : b.ty.Contents (Elt F), ⌜f = X⌝ ∗ pt c b f)

theorem owns_stg (b : Ref sig .tc) (X : b.ty.Contents (Elt F)) :
    (owns (Ix := Unit) (Name := ℕ) (U := UU) (Lvl := ℕ) (c : Thread nD τ) (Memref.whole b) fullShare X : sProp 𝕄) = stgAt c b X := by
  unfold owns; simp only [Memref.view_whole, View.read_whole, View.set_whole]

/-- What a peer's barrier is signalled with, from the landing slots and the records. -/
theorem give_intro (j : Fin 3) :
    iprop((bigSep Finset.univ fun h : Hop => (reached ER (recvC c h) 0 : sProp 𝕄)) ∗ barTok (F := F) c j
      ∗ bigSep Finset.univ fun x : Fin 2 × Fin 4 => slotAny (F := F) x.1 x.2 j.rev c) ⊢ barGive (F := F) c j := by
  unfold barTok barGive barPay
  rw [peer_rev]
  iintro ⟨#HR, ⟨Ht, Hr⟩, Hs⟩
  isplitl [Ht]; · iexact Ht
  isplitl [Hr]; · iexact Hr
  iapply (bigSep_with_persistent (S := Finset.univ) (R := bigSep Finset.univ fun h : Hop => (reached ER (recvC c h) 0 : sProp 𝕄))
    (Φ := fun x : Fin 2 × Fin 4 => slotAny (F := F) x.1 x.2 j.rev c) fun x _ => by
      show iprop((bigSep Finset.univ fun h : Hop => (reached ER (recvC c h) 0 : sProp 𝕄)) ∗ slotAny (F := F) x.1 x.2 j.rev c)
        ⊢ iprop(slotAny (F := F) x.1 x.2 j.rev c ∗ reached ER (recvC c (x.1, x.2, j.rev)) 0)
      have hr : (bigSep Finset.univ fun h : Hop => (reached ER (recvC c h) 0 : sProp 𝕄)) ⊢ reached ER (recvC c (x.1, x.2, j.rev)) 0 :=
        bigSep_elim (Finset.mem_univ _)
      iintro ⟨#H, Hs⟩
      isplitl [Hs]; · iexact Hs
      iapply hr; iexact H)
  isplitr; · iexact HR
  iexact Hs

theorem give_all :
    iprop((bigSep Finset.univ fun h : Hop => (reached ER (recvC c h) 0 : sProp 𝕄)) ∗ bigSep Finset.univ (barTok (F := F) c)
      ∗ bigSep Finset.univ fun j : Fin 3 => bigSep Finset.univ fun x : Fin 2 × Fin 4 => slotAny (F := F) x.1 x.2 j c)
      ⊢ iprop(barGive (F := F) c 0 ∗ barGive (F := F) c 1 ∗ barGive (F := F) c 2) := by
  rw [bigSep3, bigSep3]
  iintro ⟨#HR, ⟨H0, H1, H2⟩, S0, S1, S2⟩
  isplitl [H0 S2]
  · iapply (give_intro c 0)
    isplitr; · iexact HR
    isplitl [H0]; · iexact H0
    iexact S2
  isplitl [H1 S1]
  · iapply (give_intro c 1)
    isplitr; · iexact HR
    isplitl [H1]; · iexact H1
    iexact S1
  iapply (give_intro c 2)
  isplitr; · iexact HR
  isplitl [H2]; · iexact H2
  iexact S0

/-- What the region hands the body, and what it asks back. -/
def pre (c : Dev nD) : sProp 𝕄 :=
  iprop(Φ₀ m c ∗ (pdats m 0 c).owesAt () (t0_0 : Fin cfg0.N).castSucc
    ∗ (∃ d, stgAt c cc0_stg0_0 ((pdats m 0 c).before (0 : Fin 4) t0_0 d))
    ∗ (∃ d, stgAt c cc0_stg1_0 ((pdats m 0 c).before (1 : Fin 4) t0_0 d))
    ∗ (∃ d, stgAt c cc0_stg2_0 ((pdats m 0 c).before (2 : Fin 4) t0_0 d))
    ∗ (∃ d, stgAt c cc0_stg3_0 ((pdats m 0 c).before (3 : Fin 4) t0_0 d)))
def post (c : Dev nD) : sProp 𝕄 :=
  iprop(Φ₁ m c ∗ (pdats m 0 c).owesAt () (t0_0 : Fin cfg0.N).succ
    ∗ stgAt c cc0_stg0_0 (inOf m c).x ∗ stgAt c cc0_stg1_0 (inOf m c).wq ∗ stgAt c cc0_stg2_0 (inOf m c).wo
    ∗ stgAt c cc0_stg3_0 (outOf m c))

theorem owes_in : ((pdats m 0 c).owesAt () (t0_0 : Fin cfg0.N).castSucc : sProp 𝕄) ⊢ owing (F := F) c 0 := by
  unfold Dat.owesAt Pipeline.owesWithin owing
  rw [show (pdats m 0 c).owed (t0_0 : Fin cfg0.N).castSucc = owedL c (pays.drop 0) from rfl]
  iintro ⟨%W, -, HO⟩; iexists W; iexact HO
theorem owes_out : owing (F := F) c 27 ⊢ ((pdats m 0 c).owesAt () (t0_0 : Fin cfg0.N).succ : sProp 𝕄) := by
  unfold Dat.owesAt Pipeline.owesWithin Dat.bound owing
  rw [show (pdats m 0 c).owed (t0_0 : Fin cfg0.N).succ = owedL c (pays.drop 27) from rfl,
    show (pdats m 0 c).recorded (t0_0 : Fin cfg0.N).succ = Set.univ from rfl]
  iintro ⟨%W, HO⟩; iexists W; isplitr; · ipureintro; exact fun _ _ => Or.inl trivial
  iexact HO

theorem idx0 : ∀ a, win0_0.index t0_0 a = 0 := by decide +kernel
theorem idx1 : ∀ a, win0_1.index t0_0 a = 0 := by decide +kernel
theorem idx2 : ∀ a, win0_2.index t0_0 a = 0 := by decide +kernel
theorem before_x (d) : (pdats m 0 c).before (0 : Fin 4) t0_0 d = (inOf m c).x := by
  unfold Dat.before; rw [if_pos (fetch0_0 t0_0)]
  show (pdats m 0 c).blockOf 0 t0_0 = _
  funext i
  show (inOf m c).x ((win0_0.rect t0_0).emb i) = (inOf m c).x i
  exact congrArg (inOf m c).x (funext fun a => Fin.ext (Pipeline.Window.rect_emb_val_of_index_zero _ _ _ (idx0 a) _))
theorem before_wq (d) : (pdats m 0 c).before (1 : Fin 4) t0_0 d = (inOf m c).wq := by
  unfold Dat.before; rw [if_pos (fetch0_1 t0_0)]
  show (pdats m 0 c).blockOf 1 t0_0 = _
  funext i
  show (inOf m c).wq ((win0_1.rect t0_0).emb i) = (inOf m c).wq i
  exact congrArg (inOf m c).wq (funext fun a => Fin.ext (Pipeline.Window.rect_emb_val_of_index_zero _ _ _ (idx1 a) _))
theorem before_wo (d) : (pdats m 0 c).before (2 : Fin 4) t0_0 d = (inOf m c).wo := by
  unfold Dat.before; rw [if_pos (fetch0_2 t0_0)]
  show (pdats m 0 c).blockOf 2 t0_0 = _
  funext i
  show (inOf m c).wo ((win0_2.rect t0_0).emb i) = (inOf m c).wo i
  exact congrArg (inOf m c).wo (funext fun a => Fin.ext (Pipeline.Window.rect_emb_val_of_index_zero _ _ _ (idx2 a) _))

theorem stg_intro (b : Ref sig .tc) (X : b.ty.Contents (Elt F)) : pt c b X ⊢ (stgAt c b X : sProp 𝕄) := by
  iintro H; iexists X; isplitr; · (ipureintro; rfl)
  iexact H

/-- What the body leaves, closed. -/
theorem finish (K : GSem nD τ sig → ℕ) :
    iprop(env (datOf m) K ∗ prng (F := F) c ∗ bodyPost (datOf m) (inOf m) c) ⊢ iprop(|={Set.univ}=> post m c) := by
  unfold bodyPost env
  iintro ⟨⟨#HI, -⟩, Hp, Hx, Hwq, Hwo, Hk, Hv, Ho, S0, S1, S2, S3, S4, M4, M5, HO, HB, HH⟩
  imod (close_bar (datOf m) c K) $$ [HB] with HB
  · isplitr; · iexact HI
    iexact HB
  imod (close_hops (datOf m) c K) $$ [HH] with HH
  · isplitr; · iexact HI
    iexact HH
  imodintro
  unfold post Φ₁ pair scratch
  rw [ownSems0_eq]
  isplitl [HB M4 M5 HH Hk Hv S0 S1 S2 S3 S4 Hp]
  · isplitl [HB]; · iexact HB
    isplitl [M4 M5 HH]
    · isplitl [M4 M5]
      · isplitl [M4] <;> iassumption
      iexact HH
    isplitl [Hk Hv]
    · isplitl [Hk] <;> iassumption
    isplitl [S0 S1 S2 S3 S4]
    · isplitl [S0]; · iexact S0
      isplitl [S1]; · iexact S1
      isplitl [S2]; · iexact S2
      isplitl [S3] <;> iassumption
    iexact Hp
  isplitl [HO]; · iapply (owes_out m c) $$ HO
  isplitl [Hx]; · iapply (stg_intro c cc0_stg0_0 _) $$ Hx
  isplitl [Hwq]; · iapply (stg_intro c cc0_stg1_0 _) $$ Hwq
  isplitl [Hwo]; · iapply (stg_intro c cc0_stg2_0 _) $$ Hwo
  iapply (stg_intro c cc0_stg3_0 _) $$ Ho

theorem body_pre : pre m c ⊢ wp frame (wpE (defs₀ (F := F)) 𝒱₀ (c : Thread nD τ) none) Set.univ prog (fun _ => post m c) := by
  unfold pre Φ₀ Xk pair scratch someOf
  iintro ⟨⟨⟨⟨%K, #He⟩, HbT, HK, #HR, Hat, Hcr, M4, M5⟩, ⟨Hk, Hv⟩, ⟨⟨%f0, S0⟩, ⟨%f1, S1⟩, ⟨%f2, S2⟩, ⟨%f3, S3⟩, ⟨%f4, S4⟩⟩, Hp⟩, HO,
    ⟨%d0, %g0, %hg0, Hx⟩, ⟨%d1, %g1, %hg1, Hwq⟩, ⟨%d2, %g2, %hg2, Hwo⟩, ⟨%d3, %g3, %hg3, Ho⟩⟩
  rw [before_x] at hg0
  rw [before_wq] at hg1
  rw [before_wo] at hg2
  subst hg0 hg1 hg2
  ihave Hs := (slots_cut c f3 f4) $$ [S3 S4]
  · isplitl [S3] <;> iassumption
  ihave HG := (give_all (F := F) c) $$ [HbT Hs]
  · isplitr; · iexact HR
    isplitl [HbT] <;> iassumption
  icases HG with ⟨G0, G1, G2⟩
  iapply (body_run (inOf m) K c (datOf m) rfl g3 f0 f1 f2 (fun _ => post m c))
  isplitr; · iexact He
  isplitl [Hx]; · iexact Hx
  isplitl [Hwq]; · iexact Hwq
  isplitl [Hwo]; · iexact Hwo
  isplitl [Hk]; · iexact Hk
  isplitl [Hv]; · iexact Hv
  isplitl [Ho]; · iexact Ho
  isplitl [S0]; · iexact S0
  isplitl [S1]; · iexact S1
  isplitl [S2]; · iexact S2
  isplitl [M4]; · iexact M4
  isplitl [M5]; · iexact M5
  isplitl [HO]; · iapply (owes_in m c) $$ HO
  isplitl [G0]; · iexact G0
  isplitl [G1]; · iexact G1
  isplitl [G2]; · iexact G2
  isplitl [Hat]; · iexact Hat
  isplitl [Hcr]; · iexact Hcr
  isplitl [HK]; · iexact HK
  iintro Hpost
  iapply (finish m c K)
  isplitr; · iexact He
  isplitl [Hp] <;> iassumption

theorem body_obl : BodyObligation (pdats m 0 c) (defs₀ (F := F)) 𝒱₀ () Set.univ := fun t => by
  obtain rfl := fin_N0 t
  rw [bigSep_W0, bigSep_W0]
  simp only [owns_stg]
  exact body_pre m c

/-! ## The region -/

def bufs : Finset (DevRef τ sig) := (StableHlo.tcRefs τ sig).filter fun b => ¬ b.isScoped
def arrs : Finset (DevRef τ sig) := Pipeline.arrRefs (τ := τ) (pcfgs (F := F) 0).spec
def kept : Finset (DevRef τ sig) := {Proc.devRef .tc main_arg0, Proc.devRef .tc main_arg2, Proc.devRef .tc main_arg3, Proc.devRef .tc main_v3}
def used : Finset (DevRef τ sig) := {Proc.devRef .tc main_arg2, Proc.devRef .tc main_arg3}
theorem used_sub : used ⊆ kept := by decide
theorem arrs_sub : arrs (F := F) ⊆ bufs := by
  show Pipeline.arrRefs (τ := τ) spec0 ⊆ bufs; decide
theorem rest_eq : bufs \ arrs (F := F) = kept := by
  show bufs \ Pipeline.arrRefs (τ := τ) spec0 = kept; decide

theorem held_bufs (W : Valuation τ sig (Elt F)) : (StableHlo.held (c : Thread nD τ) bufs W : sProp 𝕄)
    = iprop(StableHlo.held (c : Thread nD τ) (arrs (F := F)) W ∗ StableHlo.held (c : Thread nD τ) kept W) := by
  rw [StableHlo.held_sub_split (c : Thread nD τ) (arrs_sub (F := F)) W, rest_eq]
theorem held_used (W : Valuation τ sig (Elt F)) : (StableHlo.held (c : Thread nD τ) used W : sProp 𝕄)
    = iprop(pt c main_arg2 (W (Proc.devRef .tc main_arg2)) ∗ pt c main_arg3 (W (Proc.devRef .tc main_arg3))) := by
  unfold StableHlo.held
  rw [bigSep_eq_bigSepL_of_eq [Proc.devRef .tc main_arg2, Proc.devRef .tc main_arg3] (by decide) (by decide)]
  rfl

theorem scratch_eq : (Pipeline.scopedRest (Ix := Unit) (Name := ℕ) (U := UU) (Lvl := ℕ) (Val := Elt F) (Pipeline.pin (pcfgs (F := F)) adm 0).spec c : sProp 𝕄)
    = scratch (F := F) c := scopedRest0_eq c

theorem hin : iprop(Pipeline.scopedRest (Pipeline.pin (pcfgs (F := F)) adm 0).spec c ∗ (∃ r, prngReg c r)
    ∗ StableHlo.held (c.tc : Thread nD τ) used (V₁ m c) ∗ Xk (datOf m) c) ⊢ (pdats m 0 c).Φ 0 := by
  rw [show (pdats m 0 c).Φ 0 = Φ₀ m c from rfl, scratch_eq, held_used]
  unfold Φ₀ pair prng
  iintro ⟨Hs, Hp, Hh, HX⟩
  isplitl [HX]; · iexact HX
  isplitl [Hh]; · iexact Hh
  isplitl [Hs] <;> iassumption

def Yk (c : Dev nD) : sProp 𝕄 := semVal (barCell c) 0

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) used (V₂ m c) ∗ Pipeline.ownSems0 osem c ∗ Yk (F := F) c) := by
  rw [show (pdats m 0 c).Φ (Fin.last (Pipeline.pin (pcfgs (F := F)) adm 0).N) = Φ₁ m c from rfl, scratch_eq, held_used,
    V₂_ne m c (show main_arg2 ≠ main_v2 by decide), V₂_ne m c (show main_arg3 ≠ main_v2 by decide)]
  unfold Φ₁ pair prng Yk
  iintro ⟨HB, HO, Hh, Hs, Hp⟩
  isplitl [Hs]; · iexact Hs
  isplitl [Hp]; · iexact Hp
  isplitl [Hh]; · iexact Hh
  isplitl [HO] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_stage (w : Fin 4) (s : Fin (spec0 w).nbuf) : lvS (.dma ((spec0 w).sem s)) = 0 := by
  revert w s; decide

theorem cut (t : Fin (cfg0.N + 1)) (g : GSem nD τ sig) (i : Unit) (h : 0 < (pdats m 0 c).owed t g i) : i ∈ L g ∧ (0 : ℕ) < lv g i := by
  match t with
  | ⟨0, _⟩ =>
    obtain ⟨x, -, rfl⟩ := owedL_pos c pays g i h
    refine ⟨?_, ?_⟩
    · unfold L; rw [if_pos (x.cell_tc c)]; exact Finset.mem_singleton_self _
    · rw [x.lv_cell c i]
      cases x with
      | inl j => exact Nat.one_pos
      | inr y => show 0 < 2 + 2 * y.2.1.val + y.1.val; omega
  | ⟨_ + 1, _⟩ => exact absurd h (Nat.lt_irrefl 0)

theorem arr_end : (pdats m 0 c).arrAt 3 cfg0.N = outOf m c :=
  (pdats m 0 c).arrAt_eq_of_after_last 3 t0_0 (by decide +kernel) _ fun j => rfl

theorem arr_start (w : Fin 4) : (pdats m 0 c).arrAt w 0 = V₁ m c (Proc.devRef .tc (Pipeline.arrRef spec0 w)) := by
  match w with
  | ⟨0, _⟩ => rfl
  | ⟨1, _⟩ => rfl
  | ⟨2, _⟩ => rfl
  | ⟨3, _⟩ => rfl

theorem arr_last (w : Fin 4) : (pdats m 0 c).arrAt w cfg0.N = V₂ m c (Proc.devRef .tc (Pipeline.arrRef spec0 w)) := by
  match w with
  | ⟨0, _⟩ => exact ((pdats m 0 c).arrAt_in 0 rfl _).trans (V₂_ne m c (show main_v1 ≠ main_v2 by decide)).symm
  | ⟨1, _⟩ => exact ((pdats m 0 c).arrAt_in 1 rfl _).trans (V₂_ne m c (show main_arg1 ≠ main_v2 by decide)).symm
  | ⟨2, _⟩ => exact ((pdats m 0 c).arrAt_in 2 rfl _).trans (V₂_ne m c (show main_arg4 ≠ main_v2 by decide)).symm
  | ⟨3, _⟩ => exact (arr_end m c).trans (V₂_out m c).symm

theorem kept_same (b : DevRef τ sig) (hb : b ∈ kept \ used) : V₂ m c b = V₁ m c b := by
  refine Function.update_of_ne ?_ ..
  rintro rfl
  exact absurd hb (by decide)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem own_facts
    used kept used_sub kit rfl (fun c => (body_obl m c).loose)
    (fun _ => 0) O₀ (fun c => (zero_add (O₀ c)).symm) (fun _ => rfl) (fun _ => rfl) (fun c => (pdats m 0 c).share_full fun _ => rfl)
    (V₁ m) (V₂ m) (fun c b hb => kept_same m c b hb)
    (Tk (datOf m)) (Yk (F := F)) (Xk (datOf m)) (Yk (F := F)) (hopen (datOf m)) (hin m) (hout m)
    (fun c => by iintro H; imodintro; iexact H)
    (fun _ => 0)
    ⟨fun c w s => by rw [L_tc]; exact Finset.mem_singleton_self _, fun c w s => Nat.le_of_eq (cut_stage w s), fun c t g i h => cut m c t g i h⟩
    (fun _ => iprop(emp))
    (fun c w => arr_start m c w) (fun c w => arr_last m c w)

end Cert.Exchange
-- ==== Proof.Run.lean ====
/-
The launch, and the whole program's run.
-/
module

public import proofs.«01_k».proof.Proof.Region

@[expose] public section

set_option maxRecDepth 16384

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The three segments -/

theorem ops0_sub : ∀ op ∈ (hostOps0 : List (HloOp τ sig (Elt F))), op.bufs ⊆ bufs := fun op h => by
  obtain rfl := List.mem_singleton.mp h
  show ({Proc.devRef .tc main_arg0, Proc.devRef .tc main_v1} : Finset (DevRef τ sig)) ⊆ bufs; decide
theorem ops0_fresh : ∀ op ∈ (hostOps0 : List (HloOp τ sig (Elt F))), op.fresh = ∅ := fun op h => by
  obtain rfl := List.mem_singleton.mp h; rfl
theorem ops1_sub : ∀ op ∈ (hostOps1 : List (HloOp τ sig (Elt F))), op.bufs ⊆ bufs := fun op h => by
  obtain rfl := List.mem_singleton.mp h
  show ({Proc.devRef .tc main_v2, Proc.devRef .tc main_v3} : Finset (DevRef τ sig)) ⊆ bufs; decide
theorem ops1_fresh : ∀ op ∈ (hostOps1 : List (HloOp τ sig (Elt F))), op.fresh = ∅ := fun op h => by
  obtain rfl := List.mem_singleton.mp h; rfl

/-- What rides along up to the region, and after it. -/
def before (c : Dev nD) : sProp 𝕄 := iprop(Tk (datOf m) c ∗ prng (F := F) c ∗ ∃ W, owes (c : Thread nD τ) (O₀ c) W)
def since (c : Dev nD) : sProp 𝕄 := iprop(semVal (barCell c) 0 ∗ ∃ W, owes (c : Thread nD τ) (0 : CellTallies nD τ sig Unit) W)

def head : ℍ := Pipeline.HostSeg.ofOps _ _ _ _ _ bufs hostOps0 ops0_sub ops0_fresh (V₀ m) (before m)
def tail : ℍ := Pipeline.HostSeg.ofOps _ _ _ _ _ bufs hostOps1 ops1_sub ops1_fresh (V₂ m) (since (F := F))

def segs : List (Pipeline.Seg (pcfgs (F := F)) adm (pdats m) () defs₀ 𝒱₀ L lv) := [.host (head m), .region (region m), .host (tail m)]

theorem main_eq : main (F := F) c = Pipeline.Seg.run (segs m) :=
  main_segs adm (pdats m) () 𝒱₀ L lv (head m) (tail m) (region m) rfl rfl c

theorem region_pre : iprop(StableHlo.held (c : Thread nD τ) bufs (V₁ m c) ∗ before m c) ⊢ (region m).pre c := by
  show _ ⊢ iprop(StableHlo.held (c.tc : Thread nD τ) (arrs (F := F)) (V₁ m c) ∗ (∃ r, prngReg c r)
    ∗ (StableHlo.held (c.tc : Thread nD τ) kept (V₁ m c) ∗ emp) ∗ Tk (datOf m) c ∗ ∃ Wd, owes (c : Thread nD τ) (0 + O₀ c) Wd)
  rw [zero_add, held_bufs]
  unfold before prng
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post : (region m).post c ⊢ iprop(StableHlo.held (c : Thread nD τ) bufs (V₂ m c) ∗ since (F := F) c) := by
  show iprop(StableHlo.held (c.tc : Thread nD τ) (arrs (F := F)) (V₂ m c) ∗ (∃ r, prngReg c r)
    ∗ (StableHlo.held (c.tc : Thread nD τ) kept (V₂ m c) ∗ emp) ∗ Yk (F := F) c ∗ ∃ Wd, owes (c : Thread nD τ) (0 : CellTallies nD τ sig Unit) Wd) ⊢ _
  rw [held_bufs]
  unfold since Yk
  iintro ⟨Ha, -, ⟨Hr, -⟩, HB, HO⟩
  isplitl [Ha Hr]
  · isplitl [Ha] <;> iassumption
  isplitl [HB] <;> iassumption

/-! ## The launch -/

def u₀ : UU :=
  (initOf (Pipeline.cells (Pipeline.pin (pcfgs (F := F)) adm) cellOf_inj) (Pipeline.launchToks (Pipeline.pin (pcfgs (F := F)) adm) cellOf_inj),
    (launchOf barCells hopCells toks, 1))

theorem split_u (a : UR sig nD τ) (b : UX) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The exchange's launch element waits with device 0. -/
def seed (c : Dev nD) : sProp 𝕄 := if c = 0 then BI.own (ER (launchOf barCells hopCells toks)) else iprop(emp)
theorem seed_all : bigSep Finset.univ (seed (F := F)) = BI.own (ER (launchOf barCells hopCells toks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem unscopedSems_eq : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- A device's share of the deal. -/
def share (c : Dev nD) : sProp 𝕄 :=
  iprop(atPos ER (barCell c) 0 (∅ : Finset Duty) 0 ∗ openToks (F := F) c ∗ payToks (F := F) c)
/-- What it has from the machine. -/
def given (c : Dev nD) : sProp 𝕄 :=
  iprop(StableHlo.held (c : Thread nD τ) bufs (V₀ m c) ∗ credsIn (F := F) c ∗ owes (c : Thread nD τ) (O₀ c) ∅ ∗ prng (F := F) c)

abbrev T₀ (c : Dev nD) : sProp 𝕄 := iprop(StableHlo.held (c : Thread nD τ) bufs (V₀ m c) ∗ before m c)
abbrev Tₙ (c : Dev nD) : sProp 𝕄 := iprop(StableHlo.held (c : Thread nD τ) bufs (V₃ m c) ∗ semVal (barCell c) 0)

theorem start_one (κ : GSem nD τ sig → ℕ) : iprop(records (datOf m) κ ∗ (share (F := F) c ∗ given m c)) ⊢ T₀ m c := by
  unfold share given T₀ before Tk
  iintro ⟨#HR, ⟨Hat, Hot, Htk⟩, Hh, Hcr, HO, Hp⟩
  isplitl [Hh]; · iexact Hh
  isplitl [Hat Hot Htk Hcr]
  · isplitr; · iexists κ; iexact HR
    isplitl [Hat]; · iexact Hat
    isplitl [Hot]; · iexact Hot
    isplitl [Htk] <;> iassumption
  isplitl [Hp]; · iexact Hp
  iexists ∅; iexact HO

theorem launch_one :
    iprop(unscopedBufs c (fun b => m ((c : Thread nD τ).loc b)) ∗ unscopedSems0 c
        ∗ owes (c : Thread nD τ) (O₀ c) ∅ ∗ Pipeline.launchCred O₀ c ∗ prngReg c (ρ c) ∗ seed (F := F) c)
      ⊢ (iprop(given m c ∗ (semVal (barCell c) 0 ∗ seed (F := F) c)) : sProp 𝕄) := by
  rw [show unscopedBufs c (fun b => m ((c : Thread nD τ).loc b)) = StableHlo.held (c : Thread nD τ) bufs (V₀ m c) from unscopedBufs_held c (V₀ m c),
    unscopedSems_eq]
  unfold given prng
  iintro ⟨Hh, Hus, HO, Hcr, Hp, HG⟩
  isplitl [Hh HO Hcr Hp]
  · isplitl [Hh]; · iexact Hh
    isplitl [Hcr]; · iapply (creds (F := F) c) $$ Hcr
    isplitl [HO]; · iexact HO
    iexists (ρ c); iexact Hp
  isplitl [Hus] <;> iassumption

theorem bar_sems : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm
theorem bar_pos : bigSep barCells (fun g => (atPos ER g 0 (∅ : Finset Duty) 0 : sProp 𝕄))
    = bigSep Finset.univ (fun c : Dev nD => (atPos ER (barCell c) 0 (∅ : Finset Duty) 0 : sProp 𝕄)) :=
  bigSep_map (s := Finset.univ) barEmb (Φ := fun g : GSem nD τ sig => (atPos ER g 0 (∅ : Finset Duty) 0 : sProp 𝕄))
theorem bar_reached : bigSep barCells (fun g => (reached ER g 0 : sProp 𝕄))
    = bigSep Finset.univ (fun c : Dev nD => (reached ER (barCell c) 0 : sProp 𝕄)) :=
  bigSep_map (s := Finset.univ) barEmb (Φ := fun g : GSem nD τ sig => (reached ER g 0 : sProp 𝕄))
theorem open_toks : bigSep hopCells (fun g => (openTok ER g : sProp 𝕄)) = bigSep Finset.univ (openToks (F := F)) := by
  unfold openToks
  rw [bigSep_map, bigSep_univ_prod, bigSep_univ_prod, bigSep_fin_two]
  refine Eq.trans (bigSep_sep' ..).symm ?_
  refine bigSep_congr fun c _ => Eq.symm ?_
  refine (bigSep_univ_prod (fun x : Fin 2 × Hop => (openTok ER (cellH x.1 c x.2) : sProp 𝕄))).trans ?_
  rw [bigSep_fin_two]
  rfl
theorem all_invs (D : Data F) (κ : GSem nD τ sig → ℕ) :
    (bigSep (barCells ∪ hopCells) fun g => (cellInv ER (rd D) (κ g) g : sProp 𝕄)) = invs D κ := by
  rw [bigSep_union disjoint_cells, bigSep_map, bigSep_map]
  rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed (F := F) c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed (F := F) c))
      ⊢ (iprop(bigSep Finset.univ (given m) ∗ (bigSep Finset.univ fun c : Dev nD => (semVal (barCell c) 0 : sProp 𝕄)) ∗ bigSep Finset.univ (seed (F := F))) : sProp 𝕄) := by
    rw [← bigSep_sep', ← bigSep_sep']
    exact bigSep_mono fun c _ => launch_one m ρ c
  rw [bar_sems, seed_all] at h1
  iintro ⟨H, -⟩
  ihave H' := h1 $$ H
  icases H' with ⟨HB, Hv, Hu⟩
  imod (Rounds.fund_launch ER (rd (datOf m)) disjoint_cells (fun g _ h => h) toks) $$ [Hv Hu] with ⟨%κ, -, #Hinv, #Hr, Hat, Hopen, Htok⟩
  · isplitl [Hv] <;> iassumption
  ihave Hat := (Entails.of_eq (bar_pos (F := F))) $$ Hat
  ihave Hopen := (Entails.of_eq (open_toks (F := F))) $$ Hopen
  ihave Htok := (Entails.of_eq (toks_eq (F := F))) $$ Htok
  ihave #Hinv' := (Entails.of_eq (all_invs (datOf m) κ)) $$ Hinv
  ihave #Hr' := (Entails.of_eq (bar_reached (F := F))) $$ Hr
  imodintro
  have h2 : iprop(records (datOf m) κ ∗ bigSep Finset.univ fun c => iprop(share (F := F) c ∗ given m c)) ⊢ bigSep Finset.univ (T₀ m) :=
    bigSep_with_persistent fun c _ => start_one m c κ
  iapply h2
  isplitr
  · unfold records
    isplitr; · iexact Hinv'
    iexact Hr'
  iapply Smoke.bigSep_pair
  isplitr [HB]
  · unfold share
    iapply Smoke.bigSep_pair; isplitl [Hat]; · iexact Hat
    iapply Smoke.bigSep_pair; isplitl [Hopen] <;> iassumption
  · iexact HB

/-! ## The run -/

theorem held_list (W : Valuation τ sig (Elt F)) : (StableHlo.held (c : Thread nD τ) bufs W : sProp 𝕄)
    = iprop(pt c main_arg0 (W (Proc.devRef .tc main_arg0)) ∗ pt c main_arg1 (W (Proc.devRef .tc main_arg1))
      ∗ pt c main_arg2 (W (Proc.devRef .tc main_arg2)) ∗ pt c main_arg3 (W (Proc.devRef .tc main_arg3))
      ∗ pt c main_arg4 (W (Proc.devRef .tc main_arg4)) ∗ pt c main_v3 (W (Proc.devRef .tc main_v3))
      ∗ pt c main_v1 (W (Proc.devRef .tc main_v1)) ∗ pt c main_v2 (W (Proc.devRef .tc main_v2))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v3, Proc.devRef .tc main_v1, Proc.devRef .tc main_v2] (by decide) (by decide)]
  rfl

theorem unscoped_sem : ∀ sm : SemLoc sig, sm.isScoped .tc = false → sm = .reg barS := by decide +kernel

def Left (c : Dev nD) (s : MemSt nD τ sig (Elt F)) : Prop :=
  (s.mem ((c : Thread nD τ).loc main_arg0) = V₃ m c (Proc.devRef .tc main_arg0)
    ∧ s.mem ((c : Thread nD τ).loc main_arg1) = V₃ m c (Proc.devRef .tc main_arg1)
    ∧ s.mem ((c : Thread nD τ).loc main_arg2) = V₃ m c (Proc.devRef .tc main_arg2)
    ∧ s.mem ((c : Thread nD τ).loc main_arg3) = V₃ m c (Proc.devRef .tc main_arg3)
    ∧ s.mem ((c : Thread nD τ).loc main_arg4) = V₃ m c (Proc.devRef .tc main_arg4)
    ∧ s.mem ((c : Thread nD τ).loc main_v3) = V₃ m c (Proc.devRef .tc main_v3))
  ∧ s.sem (barCell c) = 0

set_option backward.isDefEq.respectTransparency.types false in
/-- From any memory with every counter at zero the program ends: arguments as launched, the result named, every counter at zero. -/
theorem run_main : θ_run defs (onTc (τ := τ) (main (F := F))) ⟨m, fun _ => 0, ρ⟩
    (fun r => (∀ c : Dev nD,
        (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4))
        ∧ r.2.mem ((c : Thread nD τ).loc main_v3) = shapeCast S1x2048x1024 (outOf m c) shapeCasts_S2048x1024_S1x2048x1024)
      ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := seed) (u₀ := u₀)
    (hu₀ := by
      unfold u₀
      iintro Hu
      ihave H := (split_u _ _) $$ Hu
      icases H with ⟨HP, HX⟩
      imodintro
      isplitl [HP]; · iexact HP
      rw [seed_all]; iexact HX)
    (T₀ := T₀ m) (Tₙ := Tₙ m)
    (hch := by
      refine ⟨fun c => .rfl, fun c => region_pre m c, fun c => region_post m c, fun c => ?_⟩
      show iprop(StableHlo.held (c : Thread nD τ) bufs (V₃ m c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, HB, HO⟩
      isplitr [HO]
      · isplitl [Hh] <;> iassumption
      · iexact HO)
    (hinit := init m ρ)
    (QY := Left m)
    (hfin := fun c s' => by
      dsimp only [Tₙ]; rw [held_list]
      iintro ⟨⟨⟨H0, H1, H2, H3, H4, H5, -, -⟩, HB⟩, HSI⟩
      icombine HSI H0 gives %h0
      icombine HSI H1 gives %h1
      icombine HSI H2 gives %h2
      icombine HSI H3 gives %h3
      icombine HSI H4 gives %h4
      icombine HSI H5 gives %h5
      icombine HSI HB gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans (V₃_ne m c (by decide) (by decide) (by decide)), h1.trans (V₃_ne m c (by decide) (by decide) (by decide)),
          h2.trans (V₃_ne m c (by decide) (by decide) (by decide)), h3.trans (V₃_ne m c (by decide) (by decide) (by decide)),
          h4.trans (V₃_ne m c (by decide) (by decide) (by decide))⟩, h5.trans (V₃_out m c)⟩,
      sem_eq_zero hs fun c sm hsm => by
        obtain rfl := unscoped_sem sm hsm
        exact (h c).2⟩)

end Cert.Exchange
-- ==== Proof.Twin.lean ====
module
public import proofs.«01_k».proof.Proof.Run
public import proofs.«01_k».proof.Proof.Gen.Kernel
/-
# The frame of the program on bit patterns

The program and its idealization are one text printed twice, so the run proved of the second is the run of the first: their
body tables and their entries are equal by definition.
-/
@[expose] public section

set_option maxRecDepth 65536
set_option backward.isDefEq.respectTransparency false
set_option backward.isDefEq.respectTransparency.types false

noncomputable section

namespace Cert.Exchange

open Idealize.ShloMosaic Idealize.SL.Sem

theorem same_main : Cert.Kernel.main (F := Bits) = Cert.KernelIdeal.main (F := Bits) := rfl
theorem same_body : Cert.Kernel.cc0__body (F := Bits) = Cert.KernelIdeal.cc0__body (F := Bits) := rfl
theorem same_labels : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => dsimp only; rw [same_body]
  | ⟨_ + 1, h⟩, _ => exact absurd h (Nat.not_lt.2 (Nat.le_add_left _ _))
theorem same_defs : Cert.Kernel.defs (F := Bits) = Cert.KernelIdeal.defs (F := Bits) :=
  congrArg (Pipeline.defs (Cert.KernelIdeal.pcfgs (F := Bits))) same_labels

theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [same_defs, same_main]
  exact (θ_run Cert.KernelIdeal.defs _ _).mono (fun _ h => ⟨fun c => (h.1 c).1, h.2⟩) (Cert.Exchange.run_main (F := Bits) m g)

end Cert.Exchange
-- ==== Proof.Heads.lean ====
/-
A row group's partial sum read at an index: the rows gathered, the scores, the weighted values, the output projection.
-/
module

public import proofs.«01_k».proof.Proof.Content
public import Idealize.ShloMosaic.Lib.Pointwise

@[expose] public section

set_option maxRecDepth 16384

noncomputable section

namespace Cert.Exchange

open Cert.KernelIdeal Cert.KernelIdeal.Gen
open Idealize.ShloMosaic Idealize.ShloMosaic.TcCoe

/-- The scores of a row against the rows of its group, one head. -/
def scoreAt (q k : FVec Ideal S512x1024 .bf16) (H : Fin 8) (ρ j : Fin 512) : EReal :=
  (∑ e : Fin 128, q (ix2 ρ ⟨128 * H.val + e.val, by omega⟩) * k (ix2 j ⟨128 * H.val + e.val, by omega⟩))
    * Ideal.ofBits .f32 0x3DB504F3#32

/-- A context element: the weighted values. -/
def headAt (q k v : FVec Ideal S512x1024 .bf16) (H : Fin 8) (ρ : Fin 512) (e : Fin 128) : EReal :=
  ∑ j : Fin 512, Ideal.exp (scoreAt q k H ρ j) * Ideal.div 1 (∑ j' : Fin 512, Ideal.exp (scoreAt q k H ρ j'))
    * v (ix2 j ⟨128 * H.val + e.val, by omega⟩)

theorem headOf_ap (q k v : FVec Ideal S512x1024 .bf16) (H : Fin 8) (o : ℕ) (ho : S512x1024.Slices ![0, o] S512x128)
    (hH : o = 128 * H.val) (ρ : Fin 512) (e : Fin 128) :
    headOf o ho q k v (ix2 ρ e) = headAt q k v H ρ e := by
  subst hH
  unfold headOf headAt scoreAt
  pointwise

theorem grpOf_ap (wq wo : FVec Ideal S1024x1024 .bf16) (x k v : FVec Ideal S512x1024 .bf16) (ρ : Fin 512) (n : Fin 1024)
    (q : FVec Ideal S512x1024 .bf16) (hq : ∀ i j, q (ix2 i j) = ∑ l : Fin 1024, x (ix2 i l) * wq (ix2 l j)) :
    grpOf wq wo x k v (ix3 0 ρ n)
      = ∑ K : Fin 1024, headAt q k v ⟨K.val / 128, by omega⟩ ρ ⟨K.val % 128, by omega⟩ * wo (ix2 K n) := by
  have hq' : (truncf .bf16 (matmul dot_S512x1024_S1024x1024_S512x1024_1_0_0_1_n_n none x wq (constant S512x1024 .f32 0x00000000#32))
      bitsLt_bf16_f32 : FVec Ideal S512x1024 .bf16) = q := by
    funext i
    idx_vars i
    rw [hq]
    pointwise
  unfold grpOf
  rw [hq']
  pointwise
  simp only [headOf_ap q k v 0 0 _ rfl, headOf_ap q k v 1 128 _ rfl, headOf_ap q k v 2 256 _ rfl, headOf_ap q k v 3 384 _ rfl,
    headOf_ap q k v 4 512 _ rfl, headOf_ap q k v 5 640 _ rfl, headOf_ap q k v 6 768 _ rfl, headOf_ap q k v 7 896 _ rfl]
  refine Finset.sum_congr rfl fun K _ => congrArg (· * wo (ix2 K n)) ?_
  have key (i : Fin 8) (t : Fin 128) (h : K.val = 128 * i.val + t.val) :
      headAt q k v i ρ t = headAt q k v ⟨K.val / 128, by omega⟩ ρ ⟨K.val % 128, by omega⟩ := by
    have e1 : (⟨K.val / 128, by omega⟩ : Fin 8) = i := Fin.ext (by show K.val / 128 = i.val; omega)
    have e2 : (⟨K.val % 128, by omega⟩ : Fin 128) = t := Fin.ext (by show K.val % 128 = t.val; omega)
    rw [e1, e2]
  split_ifs <;> exact key _ _ (by simp only [Fin.isValue, Fin.coe_ofNat_eq_mod]; omega)

/-- The row of a group's position among all rows. -/
def rowOf (g : Fin 4) (ρ : Fin 512) : Fin 2048 := ⟨256 * (ρ.val / 64) + 64 * g.val + ρ.val % 64, by omega⟩

theorem ldX_ap (x : S2048x1024.Idx → Elt Ideal .f32) (g : Fin 4) (ρ : Fin 512) (n : Fin 1024) :
    ldX x g ⟨ρ.val / 64, by omega⟩ (ix2 ⟨ρ.val % 64, by omega⟩ n) = x (ix2 (rowOf g ρ) n) := by
  refine congrArg x ?_
  funext a
  match a with
  | ⟨0, _⟩ => exact Fin.ext (by show 256 * (ρ.val / 64) + 64 * g.val + 1 * (ρ.val % 64) = 256 * (ρ.val / 64) + 64 * g.val + ρ.val % 64; omega)
  | ⟨1, _⟩ => exact Fin.ext (by show 0 + 1 * n.val = n.val; omega)

theorem pay6_ap (f : Fin 8 → Vec Ideal S64x1024 .f32) (ρ : Fin 512) (n : Fin 1024) :
    k0_pay6 (f 0) (f 1) (f 2) (f 3) (f 4) (f 5) (f 6) (f 7) (ix2 ρ n) = f ⟨ρ.val / 64, by omega⟩ (ix2 ⟨ρ.val % 64, by omega⟩ n) := by
  have key (i : Fin 8) (t : Fin 64) (h : ρ.val = 64 * i.val + t.val) :
      f i (ix2 t n) = f ⟨ρ.val / 64, by omega⟩ (ix2 ⟨ρ.val % 64, by omega⟩ n) := by
    have e1 : (⟨ρ.val / 64, by omega⟩ : Fin 8) = i := Fin.ext (by show ρ.val / 64 = i.val; omega)
    have e2 : (⟨ρ.val % 64, by omega⟩ : Fin 64) = t := Fin.ext (by show ρ.val % 64 = t.val; omega)
    rw [e1, e2]
  unfold k0_pay6
  pointwise
  split_ifs <;> exact key _ _ (by simp only [Fin.isValue, Fin.coe_ofNat_eq_mod]; omega)

theorem xg_ap (x : S2048x1024.Idx → Elt Ideal .f32) (g : Fin 4) (ρ : Fin 512) (n : Fin 1024) :
    xg x g (ix2 ρ n) = x (ix2 (rowOf g ρ) n) := (pay6_ap (ldX x g) ρ n).trans (ldX_ap x g ρ n)

theorem ldK_ap (x : S2048x8x128.Idx → Elt Ideal .f32) (g : Fin 4) (ρ : Fin 512) (h : Fin 8) (e : Fin 128) :
    ldK x g ⟨ρ.val / 64, by omega⟩ (ix3 ⟨ρ.val % 64, by omega⟩ h e) = x (ix3 (rowOf g ρ) h e) := by
  refine congrArg x ?_
  funext a
  match a with
  | ⟨0, _⟩ => exact Fin.ext (by show 256 * (ρ.val / 64) + 64 * g.val + 1 * (ρ.val % 64) = 256 * (ρ.val / 64) + 64 * g.val + ρ.val % 64; omega)
  | ⟨1, _⟩ => exact Fin.ext (by show 0 + 1 * h.val = h.val; omega)
  | ⟨2, _⟩ => exact Fin.ext (by show 0 + 1 * e.val = e.val; omega)

theorem pay7_ap (f : Fin 8 → Vec Ideal S64x8x128 .f32) (ρ : Fin 512) (n : Fin 1024) :
    k0_pay7 (f 0) (f 1) (f 2) (f 3) (f 4) (f 5) (f 6) (f 7) (ix2 ρ n)
      = f ⟨ρ.val / 64, by omega⟩ (ix3 ⟨ρ.val % 64, by omega⟩ ⟨n.val / 128, by omega⟩ ⟨n.val % 128, by omega⟩) := by
  have key (i : Fin 8) (t : Fin 64) (h : ρ.val = 64 * i.val + t.val) :
      f i (ix3 t ⟨n.val / 128, by omega⟩ ⟨n.val % 128, by omega⟩)
        = f ⟨ρ.val / 64, by omega⟩ (ix3 ⟨ρ.val % 64, by omega⟩ ⟨n.val / 128, by omega⟩ ⟨n.val % 128, by omega⟩) := by
    have e1 : (⟨ρ.val / 64, by omega⟩ : Fin 8) = i := Fin.ext (by show ρ.val / 64 = i.val; omega)
    have e2 : (⟨ρ.val % 64, by omega⟩ : Fin 64) = t := Fin.ext (by show ρ.val % 64 = t.val; omega)
    rw [e1, e2]
  unfold k0_pay7
  pointwise
  split_ifs <;> exact key _ _ (by simp only [Fin.isValue, Fin.coe_ofNat_eq_mod]; omega)

theorem kg_ap (x : S2048x8x128.Idx → Elt Ideal .f32) (g : Fin 4) (ρ : Fin 512) (n : Fin 1024) :
    kg x g (ix2 ρ n) = x (ix3 (rowOf g ρ) ⟨n.val / 128, by omega⟩ ⟨n.val % 128, by omega⟩) :=
  (pay7_ap (ldK x g) ρ n).trans (ldK_ap x g ρ _ _)

/-- The values are read as the keys are. -/
theorem vg_ap (x : S2048x8x128.Idx → Elt Ideal .f32) (g : Fin 4) (ρ : Fin 512) (n : Fin 1024) :
    vg x g (ix2 ρ n) = x (ix3 (rowOf g ρ) ⟨n.val / 128, by omega⟩ ⟨n.val % 128, by omega⟩) :=
  (show vg x g (ix2 ρ n) = kg x g (ix2 ρ n) from rfl).trans (kg_ap x g ρ n)

theorem wqB_ap (x : S1024x1024.Idx → Elt Ideal .f32) (a b : Fin 1024) : wqB x (ix2 a b) = x (ix2 a b) := by
  unfold wqB k0_pay4
  pointwise
  refine congrArg x ?_
  funext i
  match i with
  | ⟨0, _⟩ => exact Fin.ext (by show 0 + 1 * a.val = a.val; omega)
  | ⟨1, _⟩ => exact Fin.ext (by show 0 + 1 * b.val = b.val; omega)

theorem woB_ap (x : S1024x1024.Idx → Elt Ideal .f32) (a b : Fin 1024) : woB x (ix2 a b) = x (ix2 a b) :=
  (show woB x (ix2 a b) = wqB x (ix2 a b) from rfl).trans (wqB_ap x a b)

theorem head_lt (c : Dev nD) (h : Fin 8) : 8 * c.val + h.val < 32 := by
  have : c.val < 4 := c.isLt
  omega

theorem off1_eq (c : Dev nD) : k0_off1 c = ![0, 0, 8 * c.val, 0] := by revert c; decide

theorem emb_heads (c : Dev nD) (hn : S2048x8x128.numel = S1x2048x8x128.numel) (j : Fin 2048) (h : Fin 8) (e : Fin 128) :
    (Rect.unit (s := S1x2048x32x128) (k0_off1 c) S1x2048x8x128.size (k0_off1_inb c)).emb (Shape.reshapeEquiv hn (ix3 j h e))
      = ix4 0 j ⟨8 * c.val + h.val, head_lt c h⟩ e := by
  rw [show Shape.reshapeEquiv hn (ix3 j h e) = _ from Shape.reshapeEquiv_cons_one hn (ix3 j h e)]
  funext a
  refine Fin.ext ?_
  have ho := off1_eq c
  match a with
  | ⟨0, _⟩ => show k0_off1 c 0 + 1 * 0 = 0; rw [ho]; rfl
  | ⟨1, _⟩ => show k0_off1 c 1 + 1 * j.val = j.val; rw [ho]; show 0 + 1 * j.val = j.val; omega
  | ⟨2, _⟩ => show k0_off1 c 2 + 1 * h.val = 8 * c.val + h.val; rw [ho]; show 8 * c.val + 1 * h.val = 8 * c.val + h.val; omega
  | ⟨3, _⟩ => show k0_off1 c 3 + 1 * e.val = e.val; rw [ho]; show 0 + 1 * e.val = e.val; omega

theorem kmOf_ap (c : Dev nD) (f : S1x2048x32x128.Idx → Elt Ideal .f32) (j : Fin 2048) (h : Fin 8) (e : Fin 128) :
    kmOf c f (ix3 j h e) = f (ix4 0 j ⟨8 * c.val + h.val, head_lt c h⟩ e) :=
  congrArg f (emb_heads c _ j h e)

theorem vmOf_ap (c : Dev nD) (f : S1x2048x32x128.Idx → Elt Ideal .f32) (j : Fin 2048) (h : Fin 8) (e : Fin 128) :
    vmOf c f (ix3 j h e) = f (ix4 0 j ⟨8 * c.val + h.val, head_lt c h⟩ e) :=
  congrArg f (emb_heads c _ j h e)

end Cert.Exchange
-- ==== Proof.Sums.lean ====
/-
Every row of the output is the sum of the four devices' partial sums, whichever way it travelled.
-/
module

public import proofs.«01_k».proof.Proof.Content
public import Idealize.ShloMosaic.Lib.Pointwise

@[expose] public section

set_option maxRecDepth 16384

noncomputable section

namespace Cert.Exchange

open Cert.KernelIdeal Cert.KernelIdeal.Gen
open Idealize.ShloMosaic Idealize.ShloMosaic.TcCoe

theorem ldChunk_ap (f : S4x512x1024.Idx → Elt Ideal .bf16) (r p : Fin 4) (t : Fin 128) (n : Fin 1024) :
    ldChunk f r p (ix3 0 t n) = f (ix3 r ⟨128 * p.val + t.val, chunk_lt p t⟩ n) := by
  refine congrArg f ?_
  funext i
  match i with
  | ⟨0, _⟩ => exact Fin.ext (by show r.val + 1 * 0 = r.val; omega)
  | ⟨1, _⟩ => exact Fin.ext (by show 128 * p.val + 1 * t.val = 128 * p.val + t.val; omega)
  | ⟨2, _⟩ => exact Fin.ext (by show 0 + 1 * n.val = n.val; omega)

theorem ldSlot_ap (f : S4x3x128x1024.Idx → Elt Ideal .bf16) (r : Fin 4) (j : Fin 3) (t : Fin 128) (n : Fin 1024) :
    ldSlot f r j (ix4 0 0 t n) = f (ix4 r j t n) := by
  refine congrArg f ?_
  funext i
  match i with
  | ⟨0, _⟩ => exact Fin.ext (by show r.val + 1 * 0 = r.val; omega)
  | ⟨1, _⟩ => exact Fin.ext (by show j.val + 1 * 0 = j.val; omega)
  | ⟨2, _⟩ => exact Fin.ext (by show 0 + 1 * t.val = t.val; omega)
  | ⟨3, _⟩ => exact Fin.ext (by show 0 + 1 * n.val = n.val; omega)

theorem pay43_ap (a : Vec Ideal S1x128x1024 .bf16) (b0 b1 b2 : Vec Ideal S1x1x128x1024 .bf16) (t : Fin 128) (n : Fin 1024) :
    k0_pay43 a b0 b1 b2 (ix2 t n) = a (ix3 0 t n) + b0 (ix4 0 0 t n) + b1 (ix4 0 0 t n) + b2 (ix4 0 0 t n) := by
  unfold k0_pay43
  pointwise

theorem accOf_ap (D : Data Ideal) (c : Dev nD) (r : Fin 4) (t : Fin 128) (n : Fin 1024) :
    accOf D c r (ix2 t n) = D.G c (ix3 r ⟨128 * c.val + t.val, chunk_lt c t⟩ n) + D.Y 0 c (ix4 r 0 t n) + D.Y 0 c (ix4 r 1 t n)
      + D.Y 0 c (ix4 r 2 t n) := by
  unfold accOf
  rw [pay43_ap, ldChunk_ap, ldSlot_ap, ldSlot_ap, ldSlot_ap]

theorem Y0_ap (D : Data Ideal) (c : Dev nD) (r : Fin 4) (j : Fin 3) (t : Fin 128) (n : Fin 1024) :
    D.Y 0 c (ix4 r j t n) = D.G (peer c j.rev) (ix3 r ⟨128 * c.val + t.val, chunk_lt c t⟩ n) := by
  have h : chunkOf 0 (peer c j.rev) j = c := peer_rev' c j
  show D.G (peer c j.rev) (ix3 r ⟨128 * (chunkOf 0 (peer c j.rev) j).val + t.val, _⟩ n) = _
  exact congrArg (D.G (peer c j.rev)) (congrArg (fun a => ix3 r a n) (Fin.ext
    (by show 128 * (chunkOf 0 (peer c j.rev) j).val + t.val = 128 * c.val + t.val; rw [h])))

theorem Y1_ap (D : Data Ideal) (c : Dev nD) (r : Fin 4) (j : Fin 3) (t : Fin 128) (n : Fin 1024) :
    D.Y 1 c (ix4 r j t n) = D.A (peer c j.rev) (ix3 r ⟨128 * (peer c j.rev).val + t.val, chunk_lt _ t⟩ n) := rfl

/-- A device's own rows are the sum of all four partial sums. -/
theorem accOf_sum (D : Data Ideal) (c : Dev nD) (r : Fin 4) (t : Fin 128) (n : Fin 1024) :
    accOf D c r (ix2 t n) = ∑ d : Fin 4, D.G d (ix3 r ⟨128 * c.val + t.val, chunk_lt c t⟩ n) := by
  rw [accOf_ap, Y0_ap, Y0_ap, Y0_ap]
  generalize (ix3 r ⟨128 * c.val + t.val, chunk_lt c t⟩ n : S4x512x1024.Idx) = i
  have hG : ∀ c : Fin 4, ∀ G : Fin 4 → EReal, G c + G (peer c (Fin.rev 0)) + G (peer c (Fin.rev 1)) + G (peer c (Fin.rev 2)) = ∑ d, G d := by
    intro c G
    rw [Fin.sum_univ_four]
    fin_cases c
    · show G 0 + G 3 + G 2 + G 1 = _; ac_rfl
    · show G 1 + G 0 + G 3 + G 2 = _; ac_rfl
    · show G 2 + G 1 + G 0 + G 3 = _; ac_rfl
    · show G 3 + G 2 + G 1 + G 0 = _; ac_rfl
  exact hG c (fun d => D.G d i)

theorem accB_ap (D : Data Ideal) (c : Dev nD) (r : Fin 4) (t : Fin 128) (n : Fin 1024) :
    accB D c r (ix3 0 t n) = accOf D c r (ix2 t n) := by
  unfold accB
  generalize accOf D c r = a
  pointwise

theorem slotFrom_spec : ∀ c p : Fin 4, p ≠ c → peer c (slotFrom c p).rev = p := by decide

/-- Every block a device stores is the sum of all four devices' partial sums. -/
theorem blk_sum (G : Dev nD → S4x512x1024.Idx → Elt Ideal .bf16) (c : Dev nD) (b : Blk) (t : Fin 64) (n : Fin 1024) :
    blk (dataOf G) c b (ix2 t n)
      = ∑ d : Fin 4, G d (ix3 b.2.2 ⟨128 * b.1.val + (64 * b.2.1.val + t.val), by omega⟩ n) := by
  obtain ⟨p, s, r⟩ := b
  have hs : ∀ s : Fin 2, s = 0 ∨ s = 1 := by decide
  have hown (c : Dev nD) (u : Fin 128) (hu : u.val = 64 * s.val + t.val) :
      accOf (dataOf G) c r (ix2 u n) = ∑ d : Fin 4, G d (ix3 r ⟨128 * c.val + (64 * s.val + t.val), by have := c.isLt; have : nD = 4 := rfl; omega⟩ n) :=
    (accOf_sum (dataOf G) c r u n).trans (Finset.sum_congr rfl fun d _ => congrArg (G d) (congrArg (fun a => ix3 r a n)
      (Fin.ext (congrArg (128 * c.val + ·) hu))))
  unfold blk
  dsimp only
  by_cases hp : p = c
  · subst hp
    rw [if_pos rfl]
    rcases hs s with h | h
    · subst h
      rw [if_pos rfl, ← hown p ⟨t.val, by omega⟩ (by show t.val = 64 * 0 + t.val; omega)]
      generalize accOf (dataOf G) p r = a
      pointwise
    · subst h
      rw [if_neg (by decide), ← hown p ⟨64 + t.val, by omega⟩ (by show 64 + t.val = 64 * 1 + t.val; omega)]
      generalize accOf (dataOf G) p r = a
      pointwise
  · rw [if_neg hp]
    have hY (u : Fin 128) : ldSlot ((dataOf G).Y 1 c) r (slotFrom c p) (ix4 0 0 u n) = accOf (dataOf G) p r (ix2 u n) := by
      rw [ldSlot_ap, Y1_ap, slotFrom_spec c p hp]
      exact (A_at G p r u n).trans (accB_ap (dataOf G) p r u n)
    rcases hs s with h | h
    · subst h
      rw [if_pos rfl, ← hown p ⟨t.val, by omega⟩ (by show t.val = 64 * 0 + t.val; omega), ← hY]
      generalize ldSlot ((dataOf G).Y 1 c) r (slotFrom c p) = a
      unfold k0_pay2 k0_pay1
      pointwise
    · subst h
      rw [if_neg (by decide), ← hown p ⟨64 + t.val, by omega⟩ (by show 64 + t.val = 64 * 1 + t.val; omega), ← hY]
      generalize ldSlot ((dataOf G).Y 1 c) r (slotFrom c p) = a
      unfold k0_pay3 k0_pay1
      pointwise

end Cert.Exchange
-- ==== Proof.Softmax.lean ====
/-
A masked softmax over the extended reals: shifting a row by its greatest score changes no weight, and a masked position
weighs nothing.
-/
module

public import Idealize.ShloMosaic.PureOps.Ideal
public import Mathlib.Algebra.BigOperators.Fin

@[expose] public section

noncomputable section

namespace Cert.Softmax

open Idealize.ShloMosaic

/-- A finite extended real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

theorem exp_coe (r : ℝ) : Ideal.exp (r : EReal) = ((Real.exp r : ℝ) : EReal) := rfl
theorem exp_bot : Ideal.exp ⊥ = 0 := rfl

theorem div_coe (a b : ℝ) (hb : b ≠ 0) : Ideal.div (a : EReal) (b : EReal) = ((a / b : ℝ) : EReal) := by
  have h : (b : EReal) ≠ 0 := fun e => hb (EReal.coe_eq_zero.mp e)
  unfold Ideal.div
  rw [if_neg h, ← EReal.coe_inv, ← EReal.coe_mul, div_eq_mul_inv]

/-- The greatest of the kept scores is a finite number. -/
theorem max_real {N : ℕ} (p : Fin N → Prop) [DecidablePred p] (r : Fin N → ℝ) (j0 : Fin N) (h0 : p j0) :
    IsReal (Finset.univ.fold max ⊥ fun j => if p j then (r j : EReal) else ⊥) := by
  have key : ∀ s : Finset (Fin N), (s.fold max ⊥ fun j => if p j then (r j : EReal) else ⊥) = ⊥ ∧ (∀ j ∈ s, ¬ p j)
      ∨ IsReal (s.fold max ⊥ fun j => if p j then (r j : EReal) else ⊥) := by
    intro s
    induction s using Finset.induction_on with
    | empty => exact .inl ⟨Finset.fold_empty, fun j hj => absurd hj (Finset.notMem_empty j)⟩
    | insert a s ha ih =>
      rw [Finset.fold_insert ha]
      by_cases hp : p a
      · rw [if_pos hp]
        rcases ih with ⟨e, -⟩ | ⟨b, e⟩
        · rw [e]; exact .inr ⟨r a, max_eq_left bot_le⟩
        · rw [e]
          rcases le_total (r a) b with h | h
          · exact .inr ⟨b, max_eq_right (EReal.coe_le_coe_iff.mpr h)⟩
          · exact .inr ⟨r a, max_eq_left (EReal.coe_le_coe_iff.mpr h)⟩
      · rw [if_neg hp, max_eq_right bot_le]
        rcases ih with ⟨e, h⟩ | h
        · refine .inl ⟨e, fun j hj => ?_⟩
          rcases Finset.mem_insert.mp hj with rfl | hj
          · exact hp
          · exact h j hj
        · exact .inr h
  rcases key Finset.univ with ⟨-, h⟩ | h
  · exact absurd h0 (h j0 (Finset.mem_univ _))
  · exact h

/-- A masked row's weights, shifted by the row's greatest score or not shifted. -/
theorem weight_eq {N : ℕ} (p : Fin N → Prop) [DecidablePred p] (r : Fin N → ℝ) (j0 : Fin N) (h0 : p j0)
    (S : Fin N → EReal) (hS : ∀ j, S j = if p j then (r j : EReal) else ⊥) (j : Fin N) :
    Ideal.div (Ideal.exp (S j - Finset.univ.fold max ⊥ S)) (∑ j', Ideal.exp (S j' - Finset.univ.fold max ⊥ S))
      = if p j then Ideal.exp (r j : EReal) * Ideal.div 1 (∑ j', if p j' then Ideal.exp (r j' : EReal) else 0) else 0 := by
  obtain rfl : S = fun j => if p j then (r j : EReal) else ⊥ := funext hS
  obtain ⟨M, hM⟩ := max_real p r j0 h0
  rw [hM]
  have e1 (j : Fin N) : Ideal.exp ((if p j then (r j : EReal) else ⊥) - (M : EReal))
      = ((if p j then Real.exp (r j) * (Real.exp M)⁻¹ else 0 : ℝ) : EReal) := by
    by_cases hp : p j
    · rw [if_pos hp, if_pos hp, ← EReal.coe_sub, exp_coe, Real.exp_sub, div_eq_mul_inv]
    · rw [if_neg hp, if_neg hp, EReal.bot_sub, exp_bot, EReal.coe_zero]
  have e2 (j : Fin N) : (if p j then Ideal.exp (r j : EReal) else 0) = ((if p j then Real.exp (r j) else 0 : ℝ) : EReal) := by
    by_cases hp : p j
    · rw [if_pos hp, if_pos hp, exp_coe]
    · rw [if_neg hp, if_neg hp, EReal.coe_zero]
  have e3 : (∑ j, (if p j then Real.exp (r j) * (Real.exp M)⁻¹ else 0) : ℝ)
      = (∑ j, if p j then Real.exp (r j) else 0) * (Real.exp M)⁻¹ := by
    rw [Finset.sum_mul]
    exact Finset.sum_congr rfl fun j _ => by rw [ite_mul, zero_mul]
  have hpos : 0 < ∑ j, if p j then Real.exp (r j) else 0 :=
    Finset.sum_pos' (fun j _ => by split_ifs <;> positivity) ⟨j0, Finset.mem_univ _, by rw [if_pos h0]; positivity⟩
  have hM0 : (Real.exp M)⁻¹ ≠ 0 := inv_ne_zero (Real.exp_pos M).ne'
  simp only [e1, e2]
  rw [← coe_sum, ← coe_sum, e3, div_coe _ _ (mul_ne_zero hpos.ne' hM0), ← EReal.coe_one, div_coe _ _ hpos.ne']
  by_cases hp : p j
  · rw [if_pos hp, if_pos hp, exp_coe, ← EReal.coe_mul]
    refine congrArg _ ?_
    rw [mul_div_mul_right _ _ hM0, mul_one_div]
  · rw [if_neg hp, if_neg hp, zero_div, EReal.coe_zero]

end Cert.Softmax
-- ==== Proof.Reference.lean ====
/-
The reference's result in named stages — queries, strided mask, scores, exponentials, weights — and each stage read at an
index.
-/
module

public import proofs.«01_k».proof.Proof.Gen.ReferenceIdeal.Run
public import Idealize.ShloMosaic.Lib.Pointwise
public import Idealize.ShloMosaic.Lib.Routing.Words
public import Idealize.ShloMosaic.Lib.Routing.OpsOrder

@[expose] public section

set_option maxRecDepth 16384

noncomputable section

namespace Cert.Reference

open Cert.ReferenceIdeal Cert.ReferenceIdeal.Gen
open Idealize.ShloMosaic Idealize.ShloMosaic.TcCoe Idealize.ShloMosaic.Routing

/-- The queries, by head. -/
def qR (x : FVec Ideal S1x2048x1024 .f32) (wq : FVec Ideal S1024x4096 .f32) : FVec Ideal S1x2048x32x128 .f32 :=
  shapeCast _ (Host.dotGeneral dot_S1x2048x1024_S1024x4096_S1x2048x4096_2_0_01_1_n_n none x wq)
    shapeCasts_S1x2048x4096_S1x2048x32x128

/-- A position's block number. -/
def blkR : IVec S2048 32 := pyDiv bcast_S_S2048 (iotaInDim S2048 32 0) (constantI S_ 32 64#32)

/-- The strided mask: same block, or block numbers equal modulo four. -/
def maskR : IVec S2048x2048 1 :=
  ori (cmpi .eq (broadcastInDim S2048x2048 ![0, 1] bcast_S2048x1_S2048x2048_0_1 (broadcastInDim S2048x1 ![0] bcast_S2048_S2048x1_0 blkR))
      (broadcastInDim S2048x2048 ![0, 1] bcast_S1x2048_S2048x2048_0_1 (broadcastInDim S1x2048 ![1] bcast_S2048_S1x2048_1 blkR)))
    (cmpi .eq (broadcastInDim S2048x2048 ![0, 1] bcast_S1x2048_S2048x2048_0_1
        (pyRem bcast_S_S1x2048 (broadcastInDim S1x2048 ![1] bcast_S2048_S1x2048_1 blkR) (constantI S_ 32 4#32)))
      (broadcastInDim S2048x2048 ![0, 1] bcast_S2048x1_S2048x2048_0_1
        (pyRem bcast_S_S2048x1 (broadcastInDim S2048x1 ![0] bcast_S2048_S2048x1_0 blkR) (constantI S_ 32 4#32))))

/-- Whether a row keeps anything. -/
def keepR : IVec S1x1x2048x1 1 :=
  broadcastInDim S1x1x2048x1 ![2] bcast_S2048_S1x1x2048x1_2
    (Host.reduce IntOp.ori maskR (constantI S_ 1 0#1) reducesTo_S2048x2048_S2048_d1 h_S_)

/-- The masked scores. -/
def scR (q k : FVec Ideal S1x2048x32x128 .f32) : FVec Ideal S1x32x2048x2048 .f32 :=
  select (broadcastInDim S1x32x2048x2048 ![0, 1, 2, 3] bcast_S1x1x2048x2048_S1x32x2048x2048_0_1_2_3
      (broadcastInDim S1x1x2048x2048 ![2, 3] bcast_S2048x2048_S1x1x2048x2048_2_3 maskR))
    (mulf (Host.dotGeneral dot_S1x2048x32x128_S1x2048x32x128_S1x32x2048x2048_3_3_1_1_02_02 none q k)
      (broadcastInDim S1x32x2048x2048 ![] bcast_S_S1x32x2048x2048 (constant S_ .f32 0x3DB504F3#32)))
    (broadcastInDim S1x32x2048x2048 ![] bcast_S_S1x32x2048x2048 (constant S_ .f32 0xFF800000#32))

/-- The exponentials, each row shifted by its greatest score. -/
def exR (s : FVec Ideal S1x32x2048x2048 .f32) : FVec Ideal S1x32x2048x2048 .f32 :=
  Host.exp (subf s (broadcastInDim S1x32x2048x2048 ![0, 1, 2, 3] bcast_S1x32x2048x1_S1x32x2048x2048_0_1_2_3
    (broadcastInDim S1x32x2048x1 ![0, 1, 2] bcast_S1x32x2048_S1x32x2048x1_0_1_2
      (Host.reduce FloatOps.maximumf s (constant S_ .f32 0xFF800000#32) reducesTo_S1x32x2048x2048_S1x32x2048_d3 h_S_))))

/-- The divisor of a row: the sum of its exponentials. -/
def dnR (e : FVec Ideal S1x32x2048x2048 .f32) : FVec Ideal S1x32x2048x1 .f32 :=
  select (broadcastInDim S1x32x2048x1 ![0, 1, 2, 3] bcast_S1x1x2048x1_S1x32x2048x1_0_1_2_3 keepR)
    (broadcastInDim S1x32x2048x1 ![0, 1, 2] bcast_S1x32x2048_S1x32x2048x1_0_1_2
      (Host.reduceAdd e (constant S_ .f32 0x00000000#32) reducesTo_S1x32x2048x2048_S1x32x2048_d3 h_S_))
    (broadcastInDim S1x32x2048x1 ![] bcast_S_S1x32x2048x1 (constant S_ .f32 0x3F800000#32))

/-- The weights. -/
def wtR (e : FVec Ideal S1x32x2048x2048 .f32) : FVec Ideal S1x32x2048x2048 .f32 :=
  select (broadcastInDim S1x32x2048x2048 ![0, 1, 2, 3] bcast_S1x1x2048x1_S1x32x2048x2048_0_1_2_3 keepR)
    (Host.divf e (broadcastInDim S1x32x2048x2048 ![0, 1, 2, 3] bcast_S1x32x2048x1_S1x32x2048x2048_0_1_2_3 (dnR e)))
    (broadcastInDim S1x32x2048x2048 ![] bcast_S_S1x32x2048x2048 (constant S_ .f32 0x00000000#32))

/-- The context rows through the output projection. -/
def outR (w : FVec Ideal S1x32x2048x2048 .f32) (v : FVec Ideal S1x2048x32x128 .f32) (wo : FVec Ideal S4096x1024 .f32) :
    FVec Ideal S1x2048x1024 .f32 :=
  Host.dotGeneral dot_S1x2048x4096_S4096x1024_S1x2048x1024_2_0_01_1_n_n none
    (shapeCast _ (transpose S1x2048x32x128 [0, 3, 1, 2]
      (Host.dotGeneral dot_S1x2048x32x128_S1x32x2048x2048_S1x32x128x2048_1_3_3_2_02_01 none v w)
      transposes_S1x32x128x2048_S1x2048x32x128_0_3_1_2) shapeCasts_S1x2048x32x128_S1x2048x4096) wo

/-- The reference's result is these stages. -/
theorem res_eq (m : (ℓ : Loc nD τ sig) → Buf (Elt Ideal) ℓ) (c : Dev nD) :
    Value.res_main_v39 m c
      = outR (wtR (exR (scR (qR (m ((c.tc : Thread nD τ).loc main_arg0)) (m ((c.tc : Thread nD τ).loc main_arg1)))
          (m ((c.tc : Thread nD τ).loc main_arg2)))))
        (m ((c.tc : Thread nD τ).loc main_arg3)) (m ((c.tc : Thread nD τ).loc main_arg4)) := by
  unfold Value.res_main_v39 outR wtR dnR exR scR qR keepR maskR blkR pyRem pyDiv divGuard
  rfl

/-- Two positions see each other when their block numbers agree modulo four. -/
abbrev sees (i j : ℕ) : Prop := (j / 64) % 4 = (i / 64) % 4

theorem blkR_ap (i : Fin 2048) : blkR (ix1 i) = BitVec.ofNat 32 (i.val / 64) :=
  pyDiv_ap bcast_S_S2048 _ _ _ (a := i.val) (b := 64) rfl rfl (by omega) (by decide) (by decide)

theorem maskR_ap (i j : Fin 2048) : maskR (ix2 i j) = BitVec.ofBool (decide (sees i j)) := by
  have e1 : pyRem bcast_S_S1x2048 (broadcastInDim S1x2048 ![1] bcast_S2048_S1x2048_1 blkR) (constantI S_ 32 4#32) (ix2 0 j)
      = BitVec.ofNat 32 (j.val / 64 % 4) :=
    pyRem_ap bcast_S_S1x2048 _ _ _ (a := j.val / 64) (b := 4) (by pointwise; exact blkR_ap j) rfl (by omega) (by decide) (by decide)
  have e2 : pyRem bcast_S_S2048x1 (broadcastInDim S2048x1 ![0] bcast_S2048_S2048x1_0 blkR) (constantI S_ 32 4#32) (ix2 i 0)
      = BitVec.ofNat 32 (i.val / 64 % 4) :=
    pyRem_ap bcast_S_S2048x1 _ _ _ (a := i.val / 64) (b := 4) (by pointwise; exact blkR_ap i) rfl (by omega) (by decide) (by decide)
  unfold maskR
  pointwise
  rw [e1, e2, blkR_ap, blkR_ap, WordCmp.cmpi_eq_ofNat (by omega) (by omega), WordCmp.cmpi_eq_ofNat (by omega) (by omega)]
  refine Eq.trans BitVec.ofBool_or_ofBool (congrArg _ (Bool.eq_iff_iff.mpr ?_))
  simp only [Bool.or_eq_true, decide_eq_true_eq]
  omega

theorem keepR_ap (i : Fin 2048) : keepR (ix4 0 0 i 0) = 1#1 := by
  unfold keepR
  pointwise
  rw [fold_ori]
  exact ⟨i, Finset.mem_univ _, by rw [maskR_ap]; simp⟩

theorem qR_ap (x : FVec Ideal S1x2048x1024 .f32) (wq : FVec Ideal S1024x4096 .f32) (i : Fin 2048) (h : Fin 32) (e : Fin 128) :
    qR x wq (ix4 0 i h e) = ∑ k : Fin 1024, x (ix3 0 i k) * wq (ix2 k ⟨h.val * 128 + e.val, by omega⟩) := by
  unfold qR
  pointwise

theorem scR_ap (q k : FVec Ideal S1x2048x32x128 .f32) (h : Fin 32) (i j : Fin 2048) :
    scR q k (ix4 0 h i j) = if sees i j
      then (∑ e : Fin 128, q (ix4 0 i h e) * k (ix4 0 j h e)) * Ideal.ofBits .f32 0x3DB504F3#32 else ⊥ := by
  have hb : Ideal.ofBits .f32 0xFF800000#32 = ⊥ := by simp [Ideal.ofBits, Ideal.ieee]
  unfold scR
  pointwise
  rw [maskR_ap, hb]
  by_cases hs : sees i j
  · rw [decide_eq_true hs, if_pos hs]; rfl
  · rw [decide_eq_false hs, if_neg hs]; rfl

theorem exR_ap (s : FVec Ideal S1x32x2048x2048 .f32) (h : Fin 32) (i j : Fin 2048) :
    exR s (ix4 0 h i j) = Ideal.exp (s (ix4 0 h i j) - Finset.univ.fold max ⊥ fun j => s (ix4 0 h i j)) := by
  have hb : Ideal.ofBits .f32 0xFF800000#32 = ⊥ := by simp [Ideal.ofBits, Ideal.ieee]
  unfold exR
  pointwise
  rw [hb]

theorem sum_ap (e : FVec Ideal S1x32x2048x2048 .f32) (h : Fin 32) (i : Fin 2048) :
    Host.reduceAdd e (constant S_ .f32 0x00000000#32) reducesTo_S1x32x2048x2048_S1x32x2048_d3 h_S_ (ix3 0 h i) = ∑ j, e (ix4 0 h i j) := by
  pointwise

theorem select_kept {s : Shape} {α : Type} (c : IVec s 1) (a b : s.Idx → α) (i : s.Idx) (h : c i = 1#1) : select c a b i = a i := by
  show Scalar.select (c i) (a i) (b i) = a i
  rw [h]
  rfl

theorem dnR_ap (e : FVec Ideal S1x32x2048x2048 .f32) (h : Fin 32) (i : Fin 2048) :
    dnR e (ix4 0 h i 0) = ∑ j, e (ix4 0 h i j) := by
  have hk (k : IVec S1x1x2048x1 1) :
      broadcastInDim S1x32x2048x1 ![0, 1, 2, 3] bcast_S1x1x2048x1_S1x32x2048x1_0_1_2_3 k (ix4 0 h i 0) = k (ix4 0 0 i 0) := by
    pointwise
  have hr (r : FVec Ideal S1x32x2048 .f32) :
      broadcastInDim S1x32x2048x1 ![0, 1, 2] bcast_S1x32x2048_S1x32x2048x1_0_1_2 r (ix4 0 h i 0) = r (ix3 0 h i) := by
    pointwise
  exact (select_kept _ _ _ _ ((hk _).trans (keepR_ap i))).trans ((hr _).trans (sum_ap e h i))

theorem wtR_ap (e : FVec Ideal S1x32x2048x2048 .f32) (h : Fin 32) (i j : Fin 2048) :
    wtR e (ix4 0 h i j) = Ideal.div (e (ix4 0 h i j)) (∑ j, e (ix4 0 h i j)) := by
  have hk (k : IVec S1x1x2048x1 1) :
      broadcastInDim S1x32x2048x2048 ![0, 1, 2, 3] bcast_S1x1x2048x1_S1x32x2048x2048_0_1_2_3 k (ix4 0 h i j) = k (ix4 0 0 i 0) := by
    pointwise
  have hr (r : FVec Ideal S1x32x2048x1 .f32) :
      Host.divf e (broadcastInDim S1x32x2048x2048 ![0, 1, 2, 3] bcast_S1x32x2048x1_S1x32x2048x2048_0_1_2_3 r) (ix4 0 h i j)
        = Ideal.div (e (ix4 0 h i j)) (r (ix4 0 h i 0)) := by
    pointwise
  exact (select_kept _ _ _ _ ((hk _).trans (keepR_ap i))).trans ((hr _).trans (congrArg _ (dnR_ap e h i)))

theorem outR_ap (w : FVec Ideal S1x32x2048x2048 .f32) (v : FVec Ideal S1x2048x32x128 .f32) (wo : FVec Ideal S4096x1024 .f32)
    (i : Fin 2048) (n : Fin 1024) :
    outR w v wo (ix3 0 i n) = ∑ K : Fin 4096,
      (∑ j : Fin 2048, v (ix4 0 j ⟨K.val / 128, by omega⟩ ⟨K.val % 128, by omega⟩) * w (ix4 0 ⟨K.val / 128, by omega⟩ i j))
        * wo (ix2 K n) := by
  unfold outR
  pointwise

end Cert.Reference
-- ==== Proof.Value.lean ====
/-
The kernel's output is the reference's: both are read at an index, the groups' rows are the rows the mask keeps, and the
reference's shift by the row's greatest score changes no weight.
-/
module

public import proofs.«01_k».proof.Proof.Heads
public import proofs.«01_k».proof.Proof.Sums
public import proofs.«01_k».proof.Proof.Softmax
public import proofs.«01_k».proof.Proof.Reference

@[expose] public section

set_option maxRecDepth 16384

noncomputable section

namespace Cert.Exchange

open Cert.KernelIdeal Cert.KernelIdeal.Gen
open Idealize.ShloMosaic Idealize.ShloMosaic.TcCoe
open Cert.Reference Cert.Softmax

abbrev S4096x1024 : Shape := ⟨2, ![4096, 1024]⟩
abbrev S1024x4096 : Shape := ⟨2, ![1024, 4096]⟩
abbrev S1x2048x1024 : Shape := ⟨3, ![1, 2048, 1024]⟩

/-! ## The rows of a group -/

theorem rowOf_inj (g : Fin 4) : Function.Injective (rowOf g) := by
  intro a b h
  have h' := congrArg Fin.val h
  unfold rowOf at h'
  exact Fin.ext (by dsimp only at h'; omega)

theorem rowOf_sees (g : Fin 4) (ρ j : Fin 512) : sees (rowOf g ρ) (rowOf g j) := by
  unfold sees rowOf
  dsimp only
  omega

/-- The rows a row sees are its group's. -/
theorem sum_sees (g : Fin 4) (ρ : Fin 512) (f : Fin 2048 → EReal) (hf : ∀ j : Fin 2048, ¬ sees (rowOf g ρ) j → f j = 0) :
    ∑ j, f j = ∑ j : Fin 512, f (rowOf g j) := by
  have e : ∑ j ∈ Finset.univ.map ⟨rowOf g, rowOf_inj g⟩, f j = ∑ j : Fin 512, f (rowOf g j) := Finset.sum_map _ _ _
  rw [← e]
  refine (Finset.sum_subset (Finset.subset_univ _) fun j _ hj => hf j fun hs => hj ?_).symm
  refine Finset.mem_map.mpr ⟨⟨64 * (j.val / 256) + j.val % 64, by omega⟩, Finset.mem_univ _, Fin.ext ?_⟩
  unfold sees rowOf at hs
  dsimp only at hs
  show 256 * ((64 * (j.val / 256) + j.val % 64) / 64) + 64 * g.val + (64 * (j.val / 256) + j.val % 64) % 64 = j.val
  omega

/-! ## The scores -/

section
variable (X : FVec Ideal S1x2048x1024 .f32) (WQ : FVec Ideal S1024x4096 .f32) (KX VX : FVec Ideal S1x2048x32x128 .f32)
  (WO : FVec Ideal S4096x1024 .f32)

/-- The score of a row against a row, one head. -/
def score (h : Fin 32) (i j : Fin 2048) : EReal :=
  (∑ e : Fin 128, qR X WQ (ix4 0 i h e) * KX (ix4 0 j h e)) * Ideal.ofBits .f32 0x3DB504F3#32

theorem scale_real : IsReal (Ideal.ofBits .f32 0x3DB504F3#32) := by
  simp [Ideal.ofBits, Ideal.ieee, -EReal.coe_mul]
  exact ⟨_, rfl⟩

theorem score_real (hX : ∀ i k, IsReal (X (ix3 0 i k))) (hW : ∀ k n, IsReal (WQ (ix2 k n)))
    (hK : ∀ j h e, IsReal (KX (ix4 0 j h e))) (h : Fin 32) (i j : Fin 2048) : IsReal (score X WQ KX h i j) := by
  refine IsReal.mul (IsReal.sum fun e => IsReal.mul ?_ (hK j h e)) scale_real
  rw [qR_ap]
  exact IsReal.sum fun k => IsReal.mul (hX i k) (hW k _)

/-- The reference's weights: within a row's group its exponential over the group's sum, nothing elsewhere. -/
theorem weight_ap (hX : ∀ i k, IsReal (X (ix3 0 i k))) (hW : ∀ k n, IsReal (WQ (ix2 k n)))
    (hK : ∀ j h e, IsReal (KX (ix4 0 j h e))) (h : Fin 32) (g : Fin 4) (ρ : Fin 512) (j : Fin 2048) :
    wtR (exR (scR (qR X WQ) KX)) (ix4 0 h (rowOf g ρ) j)
      = if sees (rowOf g ρ) j then Ideal.exp (score X WQ KX h (rowOf g ρ) j)
          * Ideal.div 1 (∑ j' : Fin 512, Ideal.exp (score X WQ KX h (rowOf g ρ) (rowOf g j'))) else 0 := by
  choose r hr using score_real X WQ KX hX hW hK h (rowOf g ρ)
  rw [wtR_ap]
  simp only [exR_ap]
  refine (weight_eq (fun j : Fin 2048 => sees (rowOf g ρ) j) r (rowOf g ρ) rfl
    (fun j => scR (qR X WQ) KX (ix4 0 h (rowOf g ρ) j)) (fun j => ?_) j).trans ?_
  · rw [scR_ap]
    exact congrArg (fun z => if sees (rowOf g ρ) j then z else ⊥) (hr j)
  · rw [sum_sees g ρ _ fun j hj => if_neg hj, ← hr]
    refine congrArg (fun z => if sees (rowOf g ρ) j then Ideal.exp (score X WQ KX h (rowOf g ρ) j) * Ideal.div 1 z else 0) ?_
    refine Finset.sum_congr rfl fun j' _ => ?_
    rw [if_pos (rowOf_sees g ρ j'), ← hr]

/-! ## The kernel's side -/

/-- A device's context elements are the reference's. -/
theorem head_eq (q k v : FVec Ideal S512x1024 .bf16) (d : Fin 4) (g : Fin 4)
    (hq : ∀ ρ n, q (ix2 ρ n) = ∑ l : Fin 1024, X (ix3 0 (rowOf g ρ) l) * WQ (ix2 l ⟨1024 * d.val + n.val, by omega⟩))
    (hk : ∀ ρ n, k (ix2 ρ n) = KX (ix4 0 (rowOf g ρ) ⟨8 * d.val + n.val / 128, by omega⟩ ⟨n.val % 128, by omega⟩))
    (hv : ∀ ρ n, v (ix2 ρ n) = VX (ix4 0 (rowOf g ρ) ⟨8 * d.val + n.val / 128, by omega⟩ ⟨n.val % 128, by omega⟩))
    (hX : ∀ i k, IsReal (X (ix3 0 i k))) (hW : ∀ k n, IsReal (WQ (ix2 k n)))
    (hK : ∀ j h e, IsReal (KX (ix4 0 j h e))) (H : Fin 8) (ρ : Fin 512) (e : Fin 128) :
    headAt q k v H ρ e
      = ∑ j : Fin 2048, VX (ix4 0 j ⟨8 * d.val + H.val, by omega⟩ e)
          * wtR (exR (scR (qR X WQ) KX)) (ix4 0 ⟨8 * d.val + H.val, by omega⟩ (rowOf g ρ) j) := by
  have hs (ρ j : Fin 512) : scoreAt q k H ρ j = score X WQ KX ⟨8 * d.val + H.val, by omega⟩ (rowOf g ρ) (rowOf g j) := by
    refine congrArg (· * Ideal.ofBits .f32 0x3DB504F3#32) (Finset.sum_congr rfl fun e _ => ?_)
    rw [hq, hk, qR_ap]
    refine congrArg₂ (· * ·) (Finset.sum_congr rfl fun l _ => congrArg (X (ix3 0 (rowOf g ρ) l) * ·) (congrArg WQ
      (congrArg (ix2 l) (Fin.ext ?_)))) (congrArg KX (congrArg₂ (ix4 0 (rowOf g j)) (Fin.ext ?_) (Fin.ext ?_)))
    · show 1024 * d.val + (128 * H.val + e.val) = (8 * d.val + H.val) * 128 + e.val; omega
    · show 8 * d.val + (128 * H.val + e.val) / 128 = 8 * d.val + H.val; omega
    · show (128 * H.val + e.val) % 128 = e.val; omega
  unfold headAt
  simp only [hs, weight_ap X WQ KX hX hW hK]
  rw [sum_sees g ρ _ fun j hj => by rw [if_neg hj, mul_zero]]
  refine Finset.sum_congr rfl fun j _ => ?_
  rw [if_pos (rowOf_sees g ρ j), hv, mul_comm]
  refine congrArg (· * _) (congrArg VX (congrArg₂ (ix4 0 (rowOf g j)) (Fin.ext ?_) (Fin.ext ?_)))
  · show 8 * d.val + (128 * H.val + e.val) / 128 = 8 * d.val + H.val; omega
  · show (128 * H.val + e.val) % 128 = e.val; omega

/-- A sum over all columns, device by device. -/
theorem sum_devices (f : Fin 4096 → EReal) :
    ∑ K, f K = ∑ d : Fin 4, ∑ k : Fin 1024, f ⟨1024 * d.val + k.val, by omega⟩ := by
  rw [← Equiv.sum_comp (finProdFinEquiv : Fin 4 × Fin 1024 ≃ Fin 4096) f, Fintype.sum_prod_type]
  exact Finset.sum_congr rfl fun d _ => Finset.sum_congr rfl fun k _ => congrArg f (Fin.ext (Nat.add_comm _ _))

variable (I : Dev nD → In Ideal)

/-- Device `d`'s partial sum of its group, as the reference's columns of that device. -/
theorem grp_eq (hx : ∀ d i k, (I d).x (ix2 i k) = X (ix3 0 i k))
    (hwq : ∀ (d : Fin 4) k n, (I d).wq (ix2 k n) = WQ (ix2 k ⟨1024 * d.val + n.val, by omega⟩))
    (hwo : ∀ (d : Fin 4) k n, (I d).wo (ix2 k n) = WO (ix2 ⟨1024 * d.val + k.val, by omega⟩ n))
    (hk : ∀ d, (I d).k = KX) (hv : ∀ d, (I d).v = VX)
    (hX : ∀ i k, IsReal (X (ix3 0 i k))) (hW : ∀ k n, IsReal (WQ (ix2 k n)))
    (hK : ∀ j h e, IsReal (KX (ix4 0 j h e))) (d : Fin 4) (g : Fin 4) (ρ : Fin 512) (n : Fin 1024) :
    grp I d g (ix3 0 ρ n) = ∑ k : Fin 1024,
      (∑ j : Fin 2048, VX (ix4 0 j ⟨(1024 * d.val + k.val) / 128, by omega⟩ ⟨(1024 * d.val + k.val) % 128, by omega⟩)
          * wtR (exR (scR (qR X WQ) KX)) (ix4 0 ⟨(1024 * d.val + k.val) / 128, by omega⟩ (rowOf g ρ) j))
        * WO (ix2 ⟨1024 * d.val + k.val, by omega⟩ n) := by
  unfold grp
  rw [grpOf_ap _ _ _ _ _ ρ n (fun i => ∑ l : Fin 1024, xg (I d).x g (ix2 (i 0) l) * wqB (I d).wq (ix2 l (i 1))) fun _ _ => rfl]
  refine Finset.sum_congr rfl fun k _ => ?_
  rw [woB_ap, hwo]
  refine congrArg (· * WO (ix2 ⟨1024 * d.val + k.val, by omega⟩ n)) ?_
  rw [head_eq X WQ KX VX _ _ _ d g (fun ρ n => ?_) (fun ρ n => ?_) (fun ρ n => ?_) hX hW hK]
  · have e1 : (⟨(1024 * d.val + k.val) / 128, by omega⟩ : Fin 32) = ⟨8 * d.val + k.val / 128, by omega⟩ :=
      Fin.ext (by show (1024 * d.val + k.val) / 128 = 8 * d.val + k.val / 128; omega)
    have e2 : (⟨(1024 * d.val + k.val) % 128, by omega⟩ : Fin 128) = ⟨k.val % 128, by omega⟩ :=
      Fin.ext (by show (1024 * d.val + k.val) % 128 = k.val % 128; omega)
    rw [e1, e2]
  · refine Finset.sum_congr rfl fun l _ => ?_
    show xg (I d).x g (ix2 ρ l) * wqB (I d).wq (ix2 l n) = _
    rw [xg_ap, wqB_ap, hx, hwq]
  · rw [kg_ap, kmOf_ap, hk]
  · rw [vg_ap, vmOf_ap, hv]

/-- Element by element, the output is the reference's. -/
theorem out_eq (hx : ∀ d i k, (I d).x (ix2 i k) = X (ix3 0 i k))
    (hwq : ∀ (d : Fin 4) k n, (I d).wq (ix2 k n) = WQ (ix2 k ⟨1024 * d.val + n.val, by omega⟩))
    (hwo : ∀ (d : Fin 4) k n, (I d).wo (ix2 k n) = WO (ix2 ⟨1024 * d.val + k.val, by omega⟩ n))
    (hk : ∀ d, (I d).k = KX) (hv : ∀ d, (I d).v = VX)
    (hX : ∀ i k, IsReal (X (ix3 0 i k))) (hW : ∀ k n, IsReal (WQ (ix2 k n)))
    (hK : ∀ j h e, IsReal (KX (ix4 0 j h e))) (c : Dev nD) (R : Fin 2048) (n : Fin 1024) :
    OutF (dataOf (gOf I)) c (ix2 R n) = outR (wtR (exR (scR (qR X WQ) KX))) VX WO (ix3 0 R n) := by
  have hR : rowOf (blkOf R).2.2 ⟨128 * (blkOf R).1.val + (64 * (blkOf R).2.1.val + R.val % 64), by omega⟩ = R := by
    refine Fin.ext ?_
    show 256 * ((128 * (R.val / 512) + (64 * (R.val % 512 / 256) + R.val % 64)) / 64) + 64 * (R.val % 256 / 64)
      + (128 * (R.val / 512) + (64 * (R.val % 512 / 256) + R.val % 64)) % 64 = R.val
    omega
  rw [outR_ap, sum_devices]
  refine (blk_sum (gOf I) c (blkOf R) ⟨R.val % 64, Nat.mod_lt _ (by decide)⟩ n).trans (Finset.sum_congr rfl fun d _ => ?_)
  have h := grp_eq X WQ KX VX WO I hx hwq hwo hk hv hX hW hK d (blkOf R).2.2
    ⟨128 * (blkOf R).1.val + (64 * (blkOf R).2.1.val + R.val % 64), by omega⟩ n
  rw [hR] at h
  exact h

end

end Cert.Exchange
-- ==== Proof.Finite.lean ====
/-
The precondition read at an index: every element of the activations, of a device's query weights and of the keys is finite.
-/
module

public import proofs.«01_k».proof.Pre_scores_finite_KernelIdeal
public import proofs.«01_k».proof.Pre_scores_finite_ReferenceIdeal
public import proofs.«01_k».proof.Proof.Softmax
public import Idealize.ShloMosaic.Lib.Pointwise

@[expose] public section

set_option maxRecDepth 16384

noncomputable section

namespace Cert.Finite

open Cert.Pre_scores_finite_KernelIdeal Cert.Softmax
open Idealize.ShloMosaic

instance facts_kernel : Cert.Pre_scores_finite_KernelIdeal.Facts where
  shapeCasts_S1x2048x1024_S2097152 := by decide
  shapeCasts_S1024x1024_S1048576 := by decide
  shapeCasts_S1x2048x32x128_S8388608 := by decide
  concatenates_S2097152_S1048576_S8388608_S11534336_d0 := by decide
  bcast_S_S11534336 := by decide

instance facts_reference : Cert.Pre_scores_finite_ReferenceIdeal.Facts := by
  constructor <;> decide

open Cert.Pre_scores_finite_KernelIdeal.Facts

/-- An absolute value below the top is a real. -/
theorem isReal_of_abs_lt {x : EReal} (h : Ideal.cmp .olt (max x (-x)) ⊤ = 1#1) : IsReal x := by
  have hlt : max x (-x) < ⊤ := by
    by_contra hn
    simp [Ideal.cmp, hn] at h
  induction x using EReal.rec with
  | bot => simp at hlt
  | top => simp at hlt
  | coe r => exact ⟨r, rfl⟩

theorem ofBits_top : Ideal.ofBits .f32 0x7F800000#32 = ⊤ := by simp [Ideal.ofBits, Ideal.ieee]

/-- The elements the precondition tests, laid end to end. -/
def allOf (x : FVec Ideal S1x2048x1024 .f32) (wq : FVec Ideal S1024x1024 .f32) (k : FVec Ideal S1x2048x32x128 .f32) :
    FVec Ideal S11534336 .f32 :=
  concatenate S11534336 0 [⟨S2097152, shapeCast S2097152 x shapeCasts_S1x2048x1024_S2097152⟩,
    ⟨S1048576, shapeCast S1048576 wq shapeCasts_S1024x1024_S1048576⟩,
    ⟨S8388608, shapeCast S8388608 k shapeCasts_S1x2048x32x128_S8388608⟩]
    concatenates_S2097152_S1048576_S8388608_S11534336_d0

variable (x : FVec Ideal S1x2048x1024 .f32) (wq : FVec Ideal S1024x1024 .f32) (k v : FVec Ideal S1x2048x32x128 .f32)
  (wo : FVec Ideal S1024x1024 .f32)

theorem all_real (h : fn (F := Ideal) x wq k v wo = fun _ => 1#1) (i : S11534336.Idx) : IsReal (allOf x wq k i) := by
  have hi := congrFun h i
  refine isReal_of_abs_lt ?_
  rw [← ofBits_top]
  exact hi

theorem allOf_x (i : Fin 2048) (c : Fin 1024) : allOf x wq k (ix1 ⟨i.val * 1024 + c.val, by omega⟩) = x (ix3 0 i c) := by
  unfold allOf
  pointwise
  exact dif_pos (by omega)

theorem allOf_wq (r c : Fin 1024) : allOf x wq k (ix1 ⟨2097152 + (r.val * 1024 + c.val), by omega⟩) = wq (ix2 r c) := by
  unfold allOf
  pointwise
  exact dif_pos (by omega)

/-- Reads at equal coordinates agree. -/
theorem at_eq {a a' : Fin 2048} {b b' : Fin 32} {c c' : Fin 128} (ha : a.val = a'.val) (hb : b.val = b'.val)
    (hc : c.val = c'.val) : k (ix4 0 a b c) = k (ix4 0 a' b' c') := by
  rw [Fin.ext ha, Fin.ext hb, Fin.ext hc]

theorem allOf_k (j : Fin 2048) (h : Fin 32) (e : Fin 128) :
    allOf x wq k (ix1 ⟨3145728 + ((j.val * 32 + h.val) * 128 + e.val), by omega⟩) = k (ix4 0 j h e) := by
  unfold allOf
  pointwise
  rw [dif_neg (by omega), dif_neg (by omega)]
  exact at_eq k (by dsimp only; omega) (by dsimp only; omega) (by dsimp only; omega)

theorem x_real (h : fn (F := Ideal) x wq k v wo = fun _ => 1#1) (i : Fin 2048) (c : Fin 1024) : IsReal (x (ix3 0 i c)) :=
  allOf_x x wq k i c ▸ all_real x wq k v wo h _

theorem wq_real (h : fn (F := Ideal) x wq k v wo = fun _ => 1#1) (r c : Fin 1024) : IsReal (wq (ix2 r c)) :=
  allOf_wq x wq k r c ▸ all_real x wq k v wo h _

theorem k_real (hf : fn (F := Ideal) x wq k v wo = fun _ => 1#1) (j : Fin 2048) (h : Fin 32) (e : Fin 128) :
    IsReal (k (ix4 0 j h e)) :=
  allOf_k x wq k j h e ▸ all_real x wq k v wo hf _

end Cert.Finite

end
-- ==== Proof.Algebraic.lean ====
/-
The value claim: from memories that hold the parts of the reference's arrays, every device's result is the reference's.
-/
module

public import proofs.«01_k».proof.Defs
public import proofs.«01_k».proof.Proof.Value
public import proofs.«01_k».proof.Proof.Finite
public import proofs.«01_k».proof.Proof.Run

@[expose] public section

set_option maxRecDepth 16384

noncomputable section

namespace Cert.Exchange

open Cert.KernelIdeal Cert.KernelIdeal.Gen
open Idealize.ShloMosaic Idealize.ShloMosaic.TcCoe Idealize.SL.Sem
open Cert.Reference Cert.Softmax

/-- A block of columns, read at an index. -/
theorem block_cols (w : S1024x4096.Idx → EReal) (h : Layout.Tiles ⟨2, ![1024, 1024]⟩ ⟨2, ![1024, 4096]⟩ 1 4) (d : Fin 4)
    (k n : Fin 1024) :
    Layout.block ⟨2, ![1024, 1024]⟩ ⟨2, ![1024, 4096]⟩ 1 4 d w h (ix2 k n) = w (ix2 k ⟨1024 * d.val + n.val, by omega⟩) := by
  refine congrArg w (funext fun a => Fin.ext ?_)
  match a with
  | ⟨0, _⟩ => rfl
  | ⟨1, _⟩ => exact congrArg (· + n.val) (Nat.mul_comm d.val 1024)

/-- A block of rows, read at an index. -/
theorem block_rows (w : S4096x1024.Idx → EReal) (h : Layout.Tiles ⟨2, ![1024, 1024]⟩ ⟨2, ![4096, 1024]⟩ 0 4) (d : Fin 4)
    (k n : Fin 1024) :
    Layout.block ⟨2, ![1024, 1024]⟩ ⟨2, ![4096, 1024]⟩ 0 4 d w h (ix2 k n) = w (ix2 ⟨1024 * d.val + k.val, by omega⟩ n) := by
  refine congrArg w (funext fun a => Fin.ext ?_)
  match a with
  | ⟨0, _⟩ => exact congrArg (· + k.val) (Nat.mul_comm d.val 1024)
  | ⟨1, _⟩ => rfl

/-- An index of the result, by its row and column. -/
theorem idx_ex (i : S1x2048x1024.Idx) : ∃ (R : Fin 2048) (n : Fin 1024), i = ix3 0 R n := by
  refine ⟨i 1, i 2, funext fun a => ?_⟩
  match a with
  | ⟨0, _⟩ => exact Fin.ext (Nat.lt_one_iff.mp (i 0).isLt)
  | ⟨1, _⟩ => rfl
  | ⟨2, _⟩ => rfl

theorem drop_one_ap (x : FVec Ideal S1x2048x1024 .f32) (i : Fin 2048) (k : Fin 1024) :
    shapeCast S2048x1024 x shapeCasts_S1x2048x1024_S2048x1024 (ix2 i k) = x (ix3 0 i k) := by
  pointwise

theorem add_one_ap (x : FVec Ideal S2048x1024 .f32) (i : Fin 2048) (k : Fin 1024) :
    shapeCast S1x2048x1024 x shapeCasts_S2048x1024_S1x2048x1024 (ix3 0 i k) = x (ix2 i k) := by
  pointwise

section
variable (m : (ℓ : Loc nD τ sig) → Buf (Elt Ideal) ℓ)
variable (X : FVec Ideal S1x2048x1024 .f32) (WQ : FVec Ideal S1024x4096 .f32) (KX VX : FVec Ideal S1x2048x32x128 .f32)
  (WO : FVec Ideal S4096x1024 .f32)

/-- Every device's result, when the devices hold the parts of the whole arrays. -/
theorem result_eq (hpre : Cert.Pre_KernelIdeal_scores_finite_KernelIdeal m)
    (h0 : ∀ c : Dev nD, m ((c.tc : Thread nD τ).loc main_arg0) = X)
    (h1 : ∀ c : Dev nD, m ((c.tc : Thread nD τ).loc main_arg1) = Layout.block ⟨2, ![1024, 1024]⟩ ⟨2, ![1024, 4096]⟩ 1 4 c WQ)
    (h2 : ∀ c : Dev nD, m ((c.tc : Thread nD τ).loc main_arg2) = KX)
    (h3 : ∀ c : Dev nD, m ((c.tc : Thread nD τ).loc main_arg3) = VX)
    (h4 : ∀ c : Dev nD, m ((c.tc : Thread nD τ).loc main_arg4) = Layout.block ⟨2, ![1024, 1024]⟩ ⟨2, ![4096, 1024]⟩ 0 4 c WO)
    (c : Dev nD) :
    shapeCast S1x2048x1024 (outOf m c) shapeCasts_S2048x1024_S1x2048x1024
      = outR (wtR (exR (scR (qR X WQ) KX))) VX WO := by
  have hx (d : Fin 4) (i k) : (inOf m d).x (ix2 i k) = X (ix3 0 i k) := by
    refine (congrFun (V₁_x m d) _).trans ?_
    rw [h0]
    exact drop_one_ap X i k
  have hwq (d : Fin 4) (k n) : (inOf m d).wq (ix2 k n) = WQ (ix2 k ⟨1024 * d.val + n.val, by omega⟩) := by
    refine (congrFun (V₁_ne m d (b := main_arg1) (by decide)) _).trans ?_
    rw [h1]
    exact block_cols WQ _ d k n
  have hwo (d : Fin 4) (k n) : (inOf m d).wo (ix2 k n) = WO (ix2 ⟨1024 * d.val + k.val, by omega⟩ n) := by
    refine (congrFun (V₁_ne m d (b := main_arg4) (by decide)) _).trans ?_
    rw [h4]
    exact block_rows WO _ d k n
  have hk (d : Fin 4) : (inOf m d).k = KX := (V₁_ne m d (b := main_arg2) (by decide)).trans (h2 d)
  have hv (d : Fin 4) : (inOf m d).v = VX := (V₁_ne m d (b := main_arg3) (by decide)).trans (h3 d)
  have hX (i k) : IsReal (X (ix3 0 i k)) := h0 c ▸ Finite.x_real _ _ _ _ _ (hpre c) i k
  have hK (j h e) : IsReal (KX (ix4 0 j h e)) := h2 c ▸ Finite.k_real _ _ _ _ _ (hpre c) j h e
  have hW (k : Fin 1024) (n : Fin 4096) : IsReal (WQ (ix2 k n)) := by
    have h := Finite.wq_real _ _ _ _ _ (hpre (⟨n.val / 1024, by omega⟩ : Fin 4)) k ⟨n.val % 1024, Nat.mod_lt _ (by decide)⟩
    rw [h1] at h
    have e := block_cols WQ (by decide) ⟨n.val / 1024, by omega⟩ k ⟨n.val % 1024, Nat.mod_lt _ (by decide)⟩
    have e' : (⟨1024 * (n.val / 1024) + n.val % 1024, by omega⟩ : Fin 4096) = n := Fin.ext (Nat.div_add_mod _ _)
    exact (e.trans (congrArg (fun z => WQ (ix2 k z)) e')) ▸ h
  funext i
  obtain ⟨R, n, rfl⟩ := idx_ex i
  exact (add_one_ap (outOf m c) R n).trans (out_eq X WQ KX VX WO (inOf m) hx hwq hwo hk hv hX hW hK c R n)

end

theorem algebraic : Cert.algebraic_KernelIdeal_ReferenceIdeal_pre_scores_finite_KernelIdeal := by
  intro m g m' g' hpre hargs
  refine ⟨Cert.ReferenceIdeal.Value.res_main_v39 m' 0, ?_, ?_⟩
  · refine (θ_run defs _ _).mono (fun r h c => ⟨?_, (h.1 c).1⟩) (run_main (F := Ideal) m g)
    refine (h.1 c).2.trans ((result_eq m _ _ _ _ _ hpre (fun c => (hargs c).1) (fun c => (hargs c).2.1)
      (fun c => (hargs c).2.2.1) (fun c => (hargs c).2.2.2.1) (fun c => (hargs c).2.2.2.2) c).trans ?_)
    exact (Cert.Reference.res_eq m' 0).symm
  · exact (θ_run Cert.ReferenceIdeal.defs _ _).mono (fun r h => h 0) (Cert.ReferenceIdeal.Value.run (F := Ideal) m' g')

end Cert.Exchange

end
-- ==== Proof.lean ====
module

public import proofs.«01_k».proof.Defs
public import proofs.«01_k».proof.Proof.Twin
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.SL.Sem

theorem frame_kernel : Cert.quiescent_Kernel := fun m g _ => Cert.Exchange.frame_kernel m g

theorem frame_ideal : Cert.quiescent_KernelIdeal := fun m g _ =>
  (θ_run Cert.KernelIdeal.defs _ _).mono (fun _ h => ⟨fun c => (h.1 c).1, h.2⟩) (Cert.Exchange.run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Finite.facts_kernel,
    Cert.Finite.facts_reference, frame_kernel, frame_ideal, fun m g _ => frame_ideal m g trivial, frame_reference,
    fun m g _ => frame_reference m g trivial, trivial, Cert.Exchange.algebraic⟩

end Cert.Proof

end
